-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_v2) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel) (hPre_tokens := hPre_tokens)
    ∧ quiescent_KernelIdeal (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal (hKernelIdeal := hKernelIdeal) (hReferenceIdeal := hReferenceIdeal) (hPre_tokens := hPre_tokens)
-- ==== Pre_tokens.lean ====
abbrev S512x16 : Shape := ⟨2, ![512, 16]⟩
abbrev S100000x128 : Shape := ⟨2, ![100000, 128]⟩
abbrev S640x256 : Shape := ⟨2, ![640, 256]⟩
abbrev S640 : Shape := ⟨1, ![640]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel

variable [Facts]

def fn {F : FTy → Type} [FloatOps F] (main_arg0 : IVec S512x16 32) (main_arg1 : FVec F S100000x128 .f32) (main_arg2 : FVec F S100000x128 .f32) (main_arg3 : FVec F S640x256 .f32) (main_arg4 : FVec F S640 .f32) : IVec S_ 1 :=
  let main_c : IVec S_ 32 := constantI S_ 32 0#32
  let main_v0 : IVec S512x16 32 := broadcastInDim S512x16 ![] bcast_S_S512x16 main_c
  let main_v1 : IVec S512x16 1 := cmpi .sge main_arg0 main_v0
  let main_c_0 : IVec S_ 32 := constantI S_ 32 99997#32
  let main_v2 : IVec S512x16 32 := broadcastInDim S512x16 ![] bcast_S_S512x16 main_c_0
  let main_v3 : IVec S512x16 1 := cmpi .slt main_arg0 main_v2
  let main_v4 : IVec S512x16 1 := andi main_v1 main_v3
  let main_c_1 : IVec S_ 1 := constantI S_ 1 1#1
  let main_v5 : IVec S_ 1 := (fun x v => Host.reduce IntOp.andi x v reducesTo_S512x16_S_d0_1 h_S_) main_v4 main_c_1
  main_v5
-- ==== Kernel.lean ====
abbrev S512x16 : Shape := ⟨2, ![512, 16]⟩
abbrev S100000x128 : Shape := ⟨2, ![100000, 128]⟩
abbrev S640x256 : Shape := ⟨2, ![640, 256]⟩
abbrev S640 : Shape := ⟨1, ![640]⟩
abbrev S510x16 : Shape := ⟨2, ![510, 16]⟩
abbrev S8160 : Shape := ⟨1, ![8160]⟩
abbrev S_ : Shape := ⟨0, ![]⟩
abbrev S8192 : Shape := ⟨1, ![8192]⟩
abbrev S1 : Shape := ⟨1, ![1]⟩
abbrev S64x128 : Shape := ⟨2, ![64, 128]⟩
abbrev S8192x128 : Shape := ⟨2, ![8192, 128]⟩
abbrev S2x128 : Shape := ⟨2, ![2, 128]⟩
abbrev S256x128 : Shape := ⟨2, ![256, 128]⟩
abbrev S128x128 : Shape := ⟨2, ![128, 128]⟩
abbrev S1x128 : Shape := ⟨2, ![1, 128]⟩
abbrev S128 : Shape := ⟨1, ![128]⟩
abbrev S8160x128 : Shape := ⟨2, ![8160, 128]⟩
abbrev S510x16x128 : Shape := ⟨3, ![510, 16, 128]⟩
abbrev S1x16x128 : Shape := ⟨3, ![1, 16, 128]⟩
abbrev S16x128 : Shape := ⟨2, ![16, 128]⟩
abbrev S16 : Shape := ⟨1, ![16]⟩
abbrev S510 : Shape := ⟨1, ![510]⟩
abbrev S510x1 : Shape := ⟨2, ![510, 1]⟩
abbrev S1x16 : Shape := ⟨2, ![1, 16]⟩

abbrev nBuf : Table → Nat
  | .hbm => 41
  | .local .scVector .vmem => 3
  | _ => 0

abbrev bufTy : (tb : Table) → Fin (nBuf tb) → BufTy
  | .hbm, ⟨0, _⟩ => ⟨S512x16, .i32⟩
  | .hbm, ⟨1, _⟩ => ⟨S100000x128, .f32⟩
  | .hbm, ⟨2, _⟩ => ⟨S100000x128, .f32⟩
  | .hbm, ⟨3, _⟩ => ⟨S640x256, .f32⟩
  | .hbm, ⟨4, _⟩ => ⟨S640, .f32⟩
  | .hbm, ⟨5, _⟩ => ⟨S510x16, .i32⟩
  | .hbm, ⟨6, _⟩ => ⟨S8160, .i32⟩
  | .hbm, ⟨7, _⟩ => ⟨S_, .i32⟩
  | .hbm, ⟨8, _⟩ => ⟨S8192, .i32⟩
  | .hbm, ⟨9, _⟩ => ⟨S_, .i32⟩
  | .hbm, ⟨10, _⟩ => ⟨S1, .i32⟩
  | .hbm, ⟨11, _⟩ => ⟨S8192, .i32⟩
  | .hbm, ⟨12, _⟩ => ⟨S64x128, .i32⟩
  | .hbm, ⟨13, _⟩ => ⟨S8192x128, .f32⟩
  | .hbm, ⟨14, _⟩ => ⟨S8192x128, .f32⟩
  | .hbm, ⟨15, _⟩ => ⟨S8160x128, .f32⟩
  | .hbm, ⟨16, _⟩ => ⟨S510x16x128, .f32⟩
  | .hbm, ⟨17, _⟩ => ⟨S8160x128, .f32⟩
  | .hbm, ⟨18, _⟩ => ⟨S510x16x128, .f32⟩
  | .hbm, ⟨19, _⟩ => ⟨S1x16x128, .f32⟩
  | .hbm, ⟨20, _⟩ => ⟨S16x128, .f32⟩
  | .hbm, ⟨21, _⟩ => ⟨S_, .i32⟩
  | .hbm, ⟨22, _⟩ => ⟨S16, .i32⟩
  | .hbm, ⟨23, _⟩ => ⟨S510, .i32⟩
  | .hbm, ⟨24, _⟩ => ⟨S510x1, .i32⟩
  | .hbm, ⟨25, _⟩ => ⟨S1x16, .i32⟩
  | .hbm, ⟨26, _⟩ => ⟨S510x16, .i32⟩
  | .hbm, ⟨27, _⟩ => ⟨S510x16, .i32⟩
  | .hbm, ⟨28, _⟩ => ⟨S510x16, .i1⟩
  | .hbm, ⟨29, _⟩ => ⟨S510, .i32⟩
  | .hbm, ⟨30, _⟩ => ⟨S510x1, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S1x16, .i32⟩
  | .hbm, ⟨38, _⟩ => ⟨S510x16, .i32⟩
  | .hbm, ⟨39, _⟩ => ⟨S510x16, .i32⟩
  | .hbm, ⟨40, _⟩ => ⟨S510x16, .i1⟩
  | .local .scVector .vmem, ⟨0, _⟩ => ⟨S2x128, .i32⟩
  | .local .scVector .vmem, ⟨1, _⟩ => ⟨S256x128, .f32⟩
  | .local .scVector .vmem, ⟨2, _⟩ => ⟨S256x128, .f32⟩
  | _, _ => ⟨S512x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_arg1_scv : Ref sig .scVector := ⟨.hbm, 1, rfl⟩
abbrev main_arg2_scv : Ref sig .scVector := ⟨.hbm, 2, rfl⟩
abbrev main_v5_scv : Ref sig .scVector := ⟨.hbm, 12, rfl⟩
abbrev main_v6_0_scv : Ref sig .scVector := ⟨.hbm, 13, rfl⟩
abbrev main_v6_1_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_46_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_46_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x16 : Shape := ⟨2, ![512, 16]⟩
abbrev S100000x128 : Shape := ⟨2, ![100000, 128]⟩
abbrev S640x256 : Shape := ⟨2, ![640, 256]⟩
abbrev S640 : Shape := ⟨1, ![640]⟩
abbrev S510x16 : Shape := ⟨2, ![510, 16]⟩
abbrev S_ : Shape := ⟨0, ![]⟩
abbrev S510x16x1 : Shape := ⟨3, ![510, 16, 1]⟩
abbrev S1 : Shape := ⟨1, ![1]⟩
abbrev S1x1x1 : Shape := ⟨3, ![1, 1, 1]⟩
abbrev S510x16x128 : Shape := ⟨3, ![510, 16, 128]⟩
abbrev S1x16x128 : Shape := ⟨3, ![1, 16, 128]⟩
abbrev S16x128 : Shape := ⟨2, ![16, 128]⟩
abbrev S16 : Shape := ⟨1, ![16]⟩
abbrev S510 : Shape := ⟨1, ![510]⟩
abbrev S510x1 : Shape := ⟨2, ![510, 1]⟩
abbrev S1x16 : Shape := ⟨2, ![1, 16]⟩

abbrev nBuf : Space → Nat
  | .hbm => 74
  | .vmem => 0
  | .smem => 0
  | _ => 0

abbrev bufTy : (tb : Table) → Fin (tcTables nBuf tb) → BufTy
  | .hbm, ⟨0, _⟩ => ⟨S512x16, .i32⟩
  | .hbm, ⟨1, _⟩ => ⟨S100000x128, .f32⟩
  | .hbm, ⟨2, _⟩ => ⟨S100000x128, .f32⟩
  | .hbm, ⟨3, _⟩ => ⟨S640x256, .f32⟩
  | .hbm, ⟨4, _⟩ => ⟨S640, .f32⟩
  | .hbm, ⟨5, _⟩ => ⟨S510x16, .i32⟩
  | .hbm, ⟨6, _⟩ => ⟨S_, .i32⟩
  | .hbm, ⟨7, _⟩ => ⟨S510x16, .i32⟩
  | .hbm, ⟨8, _⟩ => ⟨S510x16, .i1⟩
  | .hbm, ⟨9, _⟩ => ⟨S_, .i32⟩
  | .hbm, ⟨10, _⟩ => ⟨S510x16, .i32⟩
  | .hbm, ⟨11, _⟩ => ⟨S510x16, .i32⟩
  | .hbm, ⟨12, _⟩ => ⟨S510x16, .i32⟩
  | .hbm, ⟨13, _⟩ => ⟨S510x16x1, .i32⟩
  | .hbm, ⟨14, _⟩ => ⟨S1, .i32⟩
  | .hbm, ⟨15, _⟩ => ⟨S_, .i32⟩
  | .hbm, ⟨16, _⟩ => ⟨S510x16x1, .i32⟩
  | .hbm, ⟨17, _⟩ => ⟨S510x16x1, .i1⟩
  | .hbm, ⟨18, _⟩ => ⟨S1x1x1, .i32⟩
  | .hbm, ⟨19, _⟩ => ⟨S510x16x1, .i32⟩
  | .hbm, ⟨20, _⟩ => ⟨S510x16x1, .i1⟩
  | .hbm, ⟨21, _⟩ => ⟨S510x16x1, .i1⟩
  | .hbm, ⟨22, _⟩ => ⟨S_, .i1⟩
  | .hbm, ⟨23, _⟩ => ⟨S510x16, .i1⟩
  | .hbm, ⟨24, _⟩ => ⟨S510x16x128, .f32⟩
  | .hbm, ⟨25, _⟩ => ⟨S510x16x128, .i1⟩
  | .hbm, ⟨26, _⟩ => ⟨S_, .f32⟩
  | .hbm, ⟨27, _⟩ => ⟨S510x16x128, .f32⟩
  | .hbm, ⟨28, _⟩ => ⟨S510x16x128, .f32⟩
  | .hbm, ⟨29, _⟩ => ⟨S_, .i32⟩
  | .hbm, ⟨30, _⟩ => ⟨S510x16, .i32⟩
  | .hbm, ⟨31, _⟩ => ⟨S510x16, .i1⟩
  | .hbm, ⟨32, _⟩ => ⟨S_, .i32⟩
  | .hbm, ⟨33, _⟩ => ⟨S510x16, .i32⟩
  | .hbm, ⟨34, _⟩ => ⟨S510x16, .i32⟩
  | .hbm, ⟨35, _⟩ => ⟨S510x16, .i32⟩
  | .hbm, ⟨36, _⟩ => ⟨S510x16x1, .i32⟩
  | .hbm, ⟨37, _⟩ => ⟨S1, .i32⟩
  | .hbm, ⟨38, _⟩ => ⟨S_, .i32⟩
  | .hbm, ⟨39, _⟩ => ⟨S510x16x1, .i32⟩
  | .hbm, ⟨40, _⟩ => ⟨S510x16x1, .i1⟩
  | .hbm, ⟨41, _⟩ => ⟨S1x1x1, .i32⟩
  | .hbm, ⟨42, _⟩ => ⟨S510x16x1, .i32⟩
  | .hbm, ⟨43, _⟩ => ⟨S510x16x1, .i1⟩
  | .hbm, ⟨44, _⟩ => ⟨S510x16x1, .i1⟩
  | .hbm, ⟨45, _⟩ => ⟨S_, .i1⟩
  | .hbm, ⟨46, _⟩ => ⟨S510x16, .i1⟩
  | .hbm, ⟨47, _⟩ => ⟨S510x16x128, .f32⟩
  | .hbm, ⟨48, _⟩ => ⟨S510x16x128, .i1⟩
  | .hbm, ⟨49, _⟩ => ⟨S_, .f32⟩
  | .hbm, ⟨50, _⟩ => ⟨S510x16x128, .f32⟩
  | .hbm, ⟨51, _⟩ => ⟨S510x16x128, .f32⟩
  | .hbm, ⟨52, _⟩ => ⟨S1x16x128, .f32⟩
  | .hbm, ⟨53, _⟩ => ⟨S16x128, .f32⟩
  | .hbm, ⟨54, _⟩ => ⟨S_, .i32⟩
  | .hbm, ⟨55, _⟩ => ⟨S16, .i32⟩
  | .hbm, ⟨56, _⟩ => ⟨S510, .i32⟩
  | .hbm, ⟨57, _⟩ => ⟨S510x1, .i32⟩
  | .hbm, ⟨58, _⟩ => ⟨S1x16, .i32⟩
  | .hbm, ⟨59, _⟩ => ⟨S510x16, .i32⟩
  | .hbm, ⟨60, _⟩ => ⟨S510x16, .i32⟩
  | .hbm, ⟨61, _⟩ => ⟨S510x16, .i1⟩
  | .hbm, ⟨62, _⟩ => ⟨S510, .i32⟩
  | .hbm, ⟨63, _⟩ => ⟨S510x1, .i32⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S_, .i32⟩
  | .hbm, ⟨68, _⟩ => ⟨S16, .i32⟩
  | .hbm, ⟨69, _⟩ => ⟨S16, .i32⟩
  | .hbm, ⟨70, _⟩ => ⟨S1x16, .i32⟩
  | .hbm, ⟨71, _⟩ => ⟨S510x16, .i32⟩
  | .hbm, ⟨72, _⟩ => ⟨S510x16, .i32⟩
  | .hbm, ⟨73, _⟩ => ⟨S510x16, .i1⟩
  | _, _ => ⟨S512x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_c : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_c_0 : Ref sig .tc := ⟨.hbm, 64, rfl⟩
abbrev main_v14 : Ref sig .tc := ⟨.hbm, 65, rfl⟩
abbrev main_v15 : Ref sig .tc := ⟨.hbm, 66, rfl⟩
abbrev main_c_1 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩

abbrev nD : Nat := 1
abbrev τ : Topo := Topo.v7x

variable {F : FTy → Type} [FloatOps F]
-- ==== Proof.Streams.lean ====
/-
  Several indirect gathers outstanding on ONE semaphore. A gather's engine pays the semaphore row by row, so gathers
  whose rows are all worth the same number of units are together one counted batch (Lib/Batch.lean) whose transfers are
  the ROWS: the waits lower the counter by a whole gather's worth, nothing comes back from one that may be answered by
  rows of several gathers, and the wait that consumes the last unit brings every row back. `wp_gatherInBatch` issues a
  gather as the next rows of such a batch; `rowsBack_join` makes of a gather's rows its destination, written, and the
  shares of its source and of its list.
-/
module

public import Idealize.ShloMosaic.Lib.SparseCore.Stream
public import Idealize.ShloMosaic.Lib.Batch

@[expose] public section

noncomputable section

namespace Cert.Proof.Streams

open Idealize.ShloMosaic Idealize.ShloMosaic.SparseCore
open Idealize.SL Idealize.SL.RA
open Idealize.SL.BI (sProp Storable bigSep)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## The issue rights of `o` transfers in a row -/

/-- The `j`-th of the `o` transfers from the `k`-th on. -/
def fromNth {n k o : ℕ} (h : k + o ≤ n) : Fin o ↪ Fin n where
  toFun j := ⟨k + j.val, by omega⟩
  inj' i j hij := Fin.ext (Nat.add_left_cancel (congrArg Fin.val hij))

theorem fromNth_val {n k o : ℕ} (h : k + o ≤ n) (j : Fin o) : (fromNth h j).val = k + j.val := rfl

/-- The transfers pending from the `k`-th on are the next `o` and those pending from the `(k + o)`-th on. -/
theorem pending_next {n k o : ℕ} (h : k + o ≤ n) (Φ : Fin n → sProp 𝕄) :
    bigSep (Transfers.pending k) Φ
      = iprop((bigSep Finset.univ fun j : Fin o => Φ ⟨k + j.val, by omega⟩) ∗ bigSep (Transfers.pending (k + o)) Φ) := by
  have hset : (Transfers.pending k : Finset (Fin n)) = Finset.univ.map (fromNth h) ∪ Transfers.pending (k + o) := by
    ext t
    simp only [Transfers.pending, Finset.mem_filter, Finset.mem_univ, true_and, Finset.mem_union, Finset.mem_map]
    constructor
    · intro hk
      rcases Nat.lt_or_ge t.val (k + o) with hlt | hge
      · exact .inl ⟨⟨t.val - k, by omega⟩, Fin.ext (by rw [fromNth_val]; simp only; omega)⟩
      · exact .inr hge
    · rintro (⟨j, rfl⟩ | hge)
      · exact Nat.le_add_right _ _
      · omega
  rw [hset, SparseCore.bigSep_union', BI.bigSep_map]
  · rfl
  · refine Finset.disjoint_left.mpr fun t ht ht' => ?_
    obtain ⟨j, -, rfl⟩ := Finset.mem_map.mp ht
    have := (Finset.mem_filter.mp ht').2
    rw [fromNth_val] at this
    omega

/-! ## What a gather's row brings back -/

section Rows

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
variable (ho : 0 < s.size hg.axis') (hin : ∀ x, (offs.view.read (Elt F) fo x).toNat < s₀.size hg.axis)

/-- Place `j` of the list, in row-major order. -/
abbrev place (j : Fin (s.size hg.axis')) : si.Idx := si.rowMajor.symm (j.cast hn.symm)

/-- The words row `j` lands: the source's, at the row place `j` names. -/
abbrev rowWords (j : Fin (s.size hg.axis')) : (s.rowShape hg.axis').Idx → Elt F e :=
  fun i => src.view.read (Elt F) fs (hg.rowIdx (rows (offs.view.read (Elt F) fo) hn hin j) i)

/-- Row `j`, landed: its row of the destination written, its place of the list, its piece of the source's share. -/
def rowBack (j : Fin (s.size hg.axis')) : sProp 𝕄 :=
  iprop((dst.view.loc c ↦[(dst.view.slice (s.rowRect hg.axis' j)).set]{fullShare}
          ((dst.view.slice (s.rowRect hg.axis' j)).write (Elt F) fd (rowWords c src hg offs hn fs fo hin j) Finset.univ))
      ∗ (offs.view.loc c ↦[{offs.view.emb (place hg hn j)}]{qo} fo)
      ∗ (src.view.loc c ↦[src.view.set]{pieceOf q _ ho j} fs))

instance rowBack_storable (j : Fin (s.size hg.axis')) :
    Storable (upEmb : UEmb _ 𝕄) (rowBack (Ix := Ix) (Name := Name) (U := U) (Lvl := Lvl) c src dst hg offs hn q qo fs fd fo ho hin j) := by
  unfold rowBack; infer_instance

/-- Every row landed is the destination written with the gather's payload, the source's share and the list's. -/
theorem rowsBack_join :
    bigSep Finset.univ (rowBack (Ix := Ix) (Name := Name) (U := U) (Lvl := Lvl) c src dst hg offs hn q qo fs fd fo ho hin)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hplace : Function.Bijective (place (si := si) hg hn) := si.rowMajor.symm.bijective.comp (finCongr hn.symm).bijective
  unfold rowBack
  iintro H
  ihave H := Transfers.bigSep_sep_out _ _ _ $$ H
  icases H with ⟨Hd, H⟩
  ihave H := Transfers.bigSep_sep_out _ _ _ $$ H
  icases H with ⟨Ho, Hs⟩
  isplitl [Hd]
  · iapply (pointsTo_rows_write c dst.view hg.axis' fd _ _ fun j i => by unfold gatherPayload; rw [Shape.Gathers.idx_rowRect_emb]) $$ Hd
  isplitl [Hs]
  · iapply (Entails.of_eq (pointsTo_piecesOf src.view.set fs ho q).symm) $$ Hs
  · iapply (Entails.of_eq (pointsTo_entries c offs.view _ hplace qo fo).symm) $$ Ho

variable {sem : DmaSem sig} (hsrc : src.view.WordExact) (he : e.bits = 32) (hsp : sp = .hbm ∨ sp = .shared) (hr : s₀.StreamRows a)

/-- The row a gather issues at place `j`, the word there being in range. -/
abbrev rowOut (j : Fin (s.size hg.axis')) : RowDma τ sig (Elt F) c.2 sem :=
  gatherRow c src dst hg sem hsrc he hsp hr j (rows (offs.view.read (Elt F) fo) hn hin j)

/-- What row `j`'s issue is handed, from the batch's invariant, its issue right and its share of everything. -/
theorem rowRes_of_right [EC.LandsIn (upEmb : UEmb _ 𝕄)] {n N : ℕ} {D : Fin n → sProp 𝕄} {γ : Fin n → ℕ} {γ₀ : ℕ} {κ : Name}
    (j : Fin (s.size hg.axis')) (t : Fin n)
    (hN : (dst.slice (s.rowRect hg.axis' j) (s.stride_rowRect hg.axis' j)).view.dmaCredit = N)
    (hD : rowBack c src dst hg offs hn q qo fs fd fo ho hin j ⊢ D t) :
    iprop(inv κ (Transfers.batchBody EC (c, SemLoc.dma sem) N D γ γ₀)
        ∗ (dst.view.loc c ↦[(dst.view.slice (s.rowRect hg.axis' j)).set]{fullShare} fd)
        ∗ (offs.view.loc c ↦[{offs.view.emb (place hg hn j)}]{qo} fo)
        ∗ (src.view.loc c ↦[src.view.set]{pieceOf q _ ho j} fs)
        ∗ count EC (γ t) 0)
      ⊢ iprop((offs.view.loc c ↦[{offs.view.emb (place hg hn j)}]{qo} fo)
          ∗ ((offs.view.loc c ↦[{offs.view.emb (place hg hn j)}]{qo} fo)
            -∗ rowRes c (rowOut c src dst hg offs hn fo hin (sem := sem) hsrc he hsp hr j))) := by
  subst hN
  iintro ⟨#Hinv, Hd, Ho, Hs, Hγ⟩
  isplitl [Ho]; · iexact Ho
  iintro Ho
  unfold rowRes
  iexists pieceOf q _ ho j, fs, iprop((dst.view.loc c ↦[(dst.view.slice (s.rowRect hg.axis' j)).set]{fullShare}
      ((dst.view.slice (s.rowRect hg.axis' j)).write (Elt F) fd (rowWords c src hg offs hn fs fo hin j) Finset.univ))
    ∗ (offs.view.loc c ↦[{offs.view.emb (place hg hn j)}]{qo} fo))
  isplitl [Hs]; · iexact Hs
  isplitl [Hd Ho]
  · iapply writeUpdate_frame
    isplitl [Hd]
    · iapply (pointsTo_writeUpdate c (v := dst.view.slice (s.rowRect hg.axis' j)) subset_rfl) $$ Hd
    · iexact Ho
  · iapply (Transfers.batch_creditUpdate EC (D := D) (γ₀ := γ₀) t (by
      refine Entails.trans ?_ hD
      unfold rowBack
      iintro ⟨⟨Hd, Ho⟩, Hs⟩
      isplitl [Hd]; · iexact Hd
      isplitl [Ho] <;> iassumption))
    isplitr; · iexact Hinv
    iexact Hγ

/-- A gather issued as the next rows of a batch on its cell: holding a share of the source, the destination outright, a
    share of the list, whose words are all rows of the source, and the batch with `k₀` rows issued, the tile continues
    with the batch, this gather's rows issued too. The deliveries the batch was allocated at must be the rows'. -/
theorem wp_gatherInBatch [EC.LandsIn (upEmb : UEmb _ 𝕄)] {hp : c.2.kind = .scVector} {k : PUnit → Prog (TpuEff nD τ sig (Elt F) Λ c.2) α}
    (ι : Ix) {n N k₀ u : ℕ} {D : Fin n → sProp 𝕄} (hn₀ : k₀ + s.size hg.axis' ≤ n) (hu : u ≤ k₀ * N)
    (hN : ∀ j, (dst.slice (s.rowRect hg.axis' j) (s.stride_rowRect hg.axis' j)).view.dmaCredit = N)
    (hD : ∀ j : Fin (s.size hg.axis'), rowBack c src dst hg offs hn q qo fs fd fo ho hin j ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k₀ u)
      ⊢ iprop((Transfers.Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  have hplace : Function.Bijective (place (si := si) hg hn) := si.rowMajor.symm.bijective.comp (finCongr hn.symm).bijective
  have hsum : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  rw [enqueueIndirectGather_bind]
  unfold Transfers.Batch
  iintro ⟨Hs, Hd, Ho, %γ, %γ₀, %κ, #Hinv, Hrights, Hu, Hcred⟩ Hk
  ihave Hs' := (Entails.of_eq (pointsTo_piecesOf src.view.set fs ho q)) $$ Hs
  ihave Hd' := (Entails.of_eq (pointsTo_rows c dst.view hg.axis' fullShare fd)) $$ Hd
  ihave Ho' := (Entails.of_eq (pointsTo_entries c offs.view _ hplace qo fo)) $$ Ho
  ihave Hr := (Entails.of_eq (pending_next hn₀ (fun t => count EC (γ t) 0))) $$ Hrights
  icases Hr with ⟨Hnow, Hlater⟩
  iapply (wp_enqueueIndirectDma 𝒱 c bd Set.univ (qo := qo) (fo := fo) (rd := rowOut c src dst hg offs hn fo hin hsrc he hsp hr) ι
      (s.size hg.axis' * N) ?agree ?row hsum) $$ [Hd' Ho' Hs' Hnow]
  case agree =>
    intro j x x' ρ ρ' h h'
    obtain ⟨_, _, rfl⟩ := Option.map_eq_some_iff.mp h
    obtain ⟨_, _, rfl⟩ := Option.map_eq_some_iff.mp h'
    rfl
  case row =>
    intro j
    change (rowOf (s₀.size hg.axis) (offs.view.read (Elt F) fo (place hg hn j))).map _ = _
    rw [rowOf_of_lt (hin _)]; rfl
  · unfold Stream.res
    ihave H1 := Transfers.bigSep_sep_in _ _ _ $$ [Hs' Hnow]; · isplitl [Hs'] <;> iassumption
    ihave H2 := Transfers.bigSep_sep_in _ _ _ $$ [Ho' H1]; · isplitl [Ho'] <;> iassumption
    ihave H3 := Transfers.bigSep_sep_in _ _ _ $$ [Hd' H2]; · isplitl [Hd'] <;> iassumption
    iapply (Transfers.bigSep_mono_pers Finset.univ _ _ _ fun j _ =>
      rowRes_of_right EC c src dst hg offs hn q qo fs fd fo ho hin (sem := sem) hsrc he hsp hr j ⟨k₀ + j.val, by omega⟩ (hN j) (hD j))
    isplitr; · iexact Hinv
    iexact H3
  · iintro Hnew
    iapply Hk
    iexists γ, γ₀, κ
    isplitr; · iexact Hinv
    isplitl [Hlater]; · iexact Hlater
    isplitl [Hu]; · iexact Hu
    rw [show (k₀ + s.size hg.axis') * N - u = (k₀ * N - u) + s.size hg.axis' * N by rw [Nat.add_mul]; omega, ← tallyAt_add]
    isplitl [Hcred] <;> iassumption

end Rows

/-! ## Two gathers from one source in one batch -/

section Pair

variable (src : Memref sig c.2.kind sp s₀ e) (dst dst' : Memref sig c.2.kind .vmem s e) (hg : s₀.Gathers a s)
variable (offs offs' : Memref sig c.2.kind .vmem si .i32) (hn : si.numel = s.size hg.axis')
variable (q q' qo : PosShare TreeShare) (fs : Buf (Elt F) (src.view.loc c))
variable (fd : Buf (Elt F) (dst.view.loc c)) (fd' : Buf (Elt F) (dst'.view.loc c))
variable (fo : Buf (Elt F) (offs.view.loc c)) (fo' : Buf (Elt F) (offs'.view.loc c))
variable (ho : 0 < s.size hg.axis') (hin : ∀ x, (offs.view.read (Elt F) fo x).toNat < s₀.size hg.axis)
variable (hin' : ∀ x, (offs'.view.read (Elt F) fo' x).toNat < s₀.size hg.axis)

/-- The rows of two gathers, the first's before the second's. -/
def pairBack : Fin (s.size hg.axis' + s.size hg.axis') → sProp 𝕄 :=
  Fin.addCases (motive := fun _ => sProp 𝕄) (rowBack c src dst hg offs hn q qo fs fd fo ho hin)
    (rowBack c src dst' hg offs' hn q' qo fs fd' fo' ho hin')

instance pairBack_storable (t : Fin (s.size hg.axis' + s.size hg.axis')) :
    Storable (upEmb : UEmb _ 𝕄) (pairBack (Ix := Ix) (Name := Name) (U := U) (Lvl := Lvl) c src dst dst' hg offs offs' hn q q' qo
      fs fd fd' fo fo' ho hin hin' t) := by
  refine Fin.addCases (fun j => ?_) (fun j => ?_) t
  · unfold pairBack; rw [Fin.addCases_left]; infer_instance
  · unfold pairBack; rw [Fin.addCases_right]; infer_instance

theorem rowBack_first (j : Fin (s.size hg.axis')) (h : 0 + j.val < s.size hg.axis' + s.size hg.axis') :
    rowBack c src dst hg offs hn q qo fs fd fo ho hin j
      ⊢ (pairBack c src dst dst' hg offs offs' hn q q' qo fs fd fd' fo fo' ho hin hin' ⟨0 + j.val, h⟩ : sProp 𝕄) := by
  rw [show (⟨0 + j.val, h⟩ : Fin (s.size hg.axis' + s.size hg.axis')) = Fin.castAdd _ j from Fin.ext (Nat.zero_add _)]
  unfold pairBack; rw [Fin.addCases_left]

theorem rowBack_second (j : Fin (s.size hg.axis')) {k : ℕ} (hk : k = s.size hg.axis') (h : k + j.val < s.size hg.axis' + s.size hg.axis') :
    rowBack c src dst' hg offs' hn q' qo fs fd' fo' ho hin' j
      ⊢ (pairBack c src dst dst' hg offs offs' hn q q' qo fs fd fd' fo fo' ho hin hin' ⟨k + j.val, h⟩ : sProp 𝕄) := by
  subst hk
  rw [show (⟨s.size hg.axis' + j.val, h⟩ : Fin (s.size hg.axis' + s.size hg.axis')) = Fin.natAdd _ j from rfl]
  unfold pairBack; rw [Fin.addCases_right]

/-- Both gathers' rows landed: both destinations written, both shares of the source and both lists back. -/
theorem pairBack_join :
    bigSep Finset.univ (pairBack c src dst dst' hg offs offs' hn q q' qo fs fd fd' fo fo' ho hin hin')
      ⊢ (iprop(((dst.view.loc c ↦[dst.view.set]{fullShare}
              (dst.view.write (Elt F) fd (gatherPayload hg (src.view.read (Elt F) fs) (rows (offs.view.read (Elt F) fo) hn hin)) Finset.univ))
            ∗ (src.view.loc c ↦[src.view.set]{q} fs) ∗ (offs.view.loc c ↦[offs.view.set]{qo} fo))
          ∗ ((dst'.view.loc c ↦[dst'.view.set]{fullShare}
              (dst'.view.write (Elt F) fd' (gatherPayload hg (src.view.read (Elt F) fs) (rows (offs'.view.read (Elt F) fo') hn hin')) Finset.univ))
            ∗ (src.view.loc c ↦[src.view.set]{q'} fs) ∗ (offs'.view.loc c ↦[offs'.view.set]{qo} fo'))) : sProp 𝕄) := by
  rw [BI.bigSep_univ_equiv finSumFinEquiv, BI.bigSep_univ_sum]
  refine sep_mono ?_ ?_
  · refine Entails.trans (Entails.of_eq (BI.bigSep_congr fun j _ => ?_)) (rowsBack_join c src dst hg offs hn q qo fs fd fo ho hin)
    rw [finSumFinEquiv_apply_left]; unfold pairBack; rw [Fin.addCases_left]
  · refine Entails.trans (Entails.of_eq (BI.bigSep_congr fun j _ => ?_)) (rowsBack_join c src dst' hg offs' hn q' qo fs fd' fo' ho hin')
    rw [finSumFinEquiv_apply_right]; unfold pairBack; rw [Fin.addCases_right]

end Pair

end Cert.Proof.Streams

end
-- ==== Proof.Values.lean ====
/-
  The mathematics of the lookup, apart from any run: what the flat, zero-padded list of row numbers holds, what the
  precondition says of the row numbers, and what the reference's lookup (a gather with wrapped, checked indices) returns.
  The row numbers are `A : [512, 16]`; the lookup reads its rows 1 to 510.
-/
module

public import proofs.«01_k».proof.Proof.Gen.Pre_tokens
public import Idealize.ShloMosaic.Lib.StableHlo.Run
public import Idealize.ShloMosaic.Lib.Pipeline.Value
public import Idealize.ShloMosaic.Lib.ValueIdxCore
public import Idealize.ShloMosaic.Lib.ReduceAll
public import Idealize.ShloMosaic.Lib.Routing.OpsSet
public import Idealize.ShloMosaic.Lib.Routing.OpsOrder

@[expose] public section

noncomputable section

namespace Cert.Proof.Values

open Idealize.ShloMosaic Idealize.ShloMosaic.ValueIdx

abbrev SA : Shape := ⟨2, ![512, 16]⟩
abbrev SB : Shape := ⟨2, ![510, 16]⟩
abbrev SB1 : Shape := ⟨3, ![510, 16, 1]⟩
abbrev SO : Shape := ⟨3, ![510, 16, 128]⟩
abbrev SE : Shape := ⟨2, ![100000, 128]⟩
abbrev S0 : Shape := ⟨0, ![]⟩

/-! ## The precondition -/

theorem andi_bits (p q : Bool) : IntOp.andi (BitVec.ofBool p) (BitVec.ofBool q) = BitVec.ofBool (p && q) := by
  cases p <;> cases q <;> decide
theorem bit_one (p : Bool) : (BitVec.ofBool p = 1#1) ↔ p = true := by cases p <;> decide

/-- Every row number is one. -/
def Rows (A : IVec SA 32) : Prop := ∀ i, (A i).toNat < 99997

theorem rows_of_pre {F : FTy → Type} [FloatOps F] (A : IVec SA 32) (E E' : FVec F SE .f32) (G : FVec F Cert.Pre_tokens.S640x256 .f32)
    (H : FVec F Cert.Pre_tokens.S640 .f32) (h : Cert.Pre_tokens.fn A E E' G H = fun _ => 1#1) : Rows A := by
  intro i
  have e := congrFun h ix0
  unfold Cert.Pre_tokens.fn at e
  have e := Host.reduce_andi_eq_one _ _ _ _ _ e i (funext fun a => a.elim0)
  simp only [andi, cmpi, broadcastInDim, constantI, IntOp.cmpi, andi_bits, bit_one, Bool.and_eq_true, BitVec.sle_eq_decide, BitVec.slt_eq_decide,
    decide_eq_true_eq, BitVec.toInt_eq_toNat_cond, BitVec.toNat_ofNat, Nat.reducePow, Nat.reduceMod] at e
  omega

/-! ## The padded list -/

/-- The dimension numbers of the write of 8160 words at a start position. -/
abbrev padDims (wf : ScatterDims.WF ⟨1, ![8192]⟩ ⟨1, ![1]⟩ ⟨1, ![8160]⟩ [0] [] [0] 0) : ScatterDims ⟨1, ![8192]⟩ ⟨1, ![1]⟩ ⟨1, ![8160]⟩ where
  updateWindowDims := [0]
  insertedWindowDims := []
  scatterDimsToOperandDims := [0]
  indexVectorDim := 0
  wf := wf

theorem pad_lands (wf : ScatterDims.WF ⟨1, ![8192]⟩ ⟨1, ![1]⟩ ⟨1, ![8160]⟩ [0] [] [0] 0) (idx : IVec ⟨1, ![1]⟩ 32) (h0 : ∀ i, idx i = 0#32)
    (j : (⟨1, ![8160]⟩ : Shape).Idx) :
    (padDims wf).resultIdx? j idx = some (ix1 ⟨(j 0).val, Nat.lt_trans (show (j 0).val < 8160 from (j 0).isLt) (by decide)⟩) := by
  have hj : (j 0).val < 8160 := (j 0).isLt
  have hs : (padDims wf).start j idx 0 = 0 := by
    unfold ScatterDims.start
    rw [dif_pos (show (0 : Fin 1) ∈ (padDims wf).scatterDimsToOperandDims from List.mem_singleton.2 rfl), h0]; rfl
  have hw : (padDims wf).window j 0 = (j 0).val := rfl
  have hall : ∀ a : Fin 1, 0 ≤ (padDims wf).start j idx a + (padDims wf).window j a
      ∧ (padDims wf).start j idx a + (padDims wf).window j a < ((⟨1, ![8192]⟩ : Shape).size a : Int) := fun a => by
    obtain rfl : a = 0 := Subsingleton.elim _ _
    rw [hs, hw]
    show (0 : Int) ≤ _ ∧ _ < ((8192 : Nat) : Int)
    omega
  unfold ScatterDims.resultIdx?
  rw [dif_pos hall]
  refine congrArg some (funext fun a => Fin.ext ?_)
  obtain rfl : a = 0 := Subsingleton.elim _ _
  show ((padDims wf).start j idx 0 + (padDims wf).window j 0).toNat = (j 0).val
  rw [hs, hw]; omega

/-- The words written at the start are the first ones. -/
theorem pad_read (wf : ScatterDims.WF ⟨1, ![8192]⟩ ⟨1, ![1]⟩ ⟨1, ![8160]⟩ [0] [] [0] 0) (x : IVec ⟨1, ![8192]⟩ 32) (idx : IVec ⟨1, ![1]⟩ 32)
    (h0 : ∀ i, idx i = 0#32) (u : IVec ⟨1, ![8160]⟩ 32) (r : Fin 8192) (hr : r.val < 8160) :
    Host.scatter (padDims wf) (fun _ b => b) x idx u (ix1 r) = u (ix1 ⟨r.val, hr⟩) := by
  refine Routing.scatter_set_hit (padDims wf) x idx u (ix1 r) _ (fun k hk => ?_) (ix1 ⟨r.val, hr⟩) (pad_lands wf idx h0 _)
  rw [pad_lands wf idx h0 k] at hk
  have h1 : (k 0).val = r.val := congrArg (fun i : (⟨1, ![8192]⟩ : Shape).Idx => (i 0).val) (Option.some.inj hk)
  rw [eq_ix1 k]
  exact congrArg u (congrArg ix1 (Fin.ext h1))

/-- The list as the kernel is given it: word `r` of the flat list, which is `(r / 128, r % 128)` of the 64 × 128 array, is
    row `1 + r / 16`, column `r % 16` of the row numbers. -/
theorem list_read (wf : ScatterDims.WF ⟨1, ![8192]⟩ ⟨1, ![1]⟩ ⟨1, ![8160]⟩ [0] [] [0] 0) (x : IVec ⟨1, ![8192]⟩ 32) (idx : IVec ⟨1, ![1]⟩ 32)
    (h0 : ∀ i, idx i = 0#32) (A : IVec SA 32) (hs : SA.Slices ![1, 0] SB) (h1 : SB.ShapeCasts ⟨1, ![8160]⟩)
    (h2 : (⟨1, ![8192]⟩ : Shape).ShapeCasts ⟨2, ![64, 128]⟩) (r : Nat) (hr : r < 8160) :
    shapeCast ⟨2, ![64, 128]⟩ (Host.scatter (padDims wf) (fun _ b => b) x idx (shapeCast ⟨1, ![8160]⟩ (extractStridedSlice SB ![1, 0] A hs) h1)) h2
        (ix2 ⟨r / 128, by omega⟩ ⟨r % 128, Nat.mod_lt _ (by decide)⟩)
      = A (ix2 ⟨1 + r / 16, by omega⟩ ⟨r % 16, Nat.mod_lt _ (by decide)⟩) := by
  rw [shapeCast_apply _ h2 _ (ix1 ⟨r, by omega⟩) (by
      rw [Shape.rowMajor_val_one, Shape.rowMajor_val_two]
      show r = r / 128 * 128 + r % 128; omega),
    pad_read wf x idx h0 _ _ hr,
    shapeCast_apply _ h1 _ (ix2 ⟨r / 16, by omega⟩ ⟨r % 16, Nat.mod_lt _ (by decide)⟩) (by
      rw [Shape.rowMajor_val_one, Shape.rowMajor_val_two]
      show r / 16 * 16 + r % 16 = r; omega),
    extractStridedSlice_apply _ _ hs _ (ix2 ⟨1 + r / 16, by omega⟩ ⟨r % 16, Nat.mod_lt _ (by decide)⟩) (fun a => by
      match a with
      | ⟨0, _⟩ => rfl
      | ⟨1, _⟩ => exact (Nat.zero_add _).symm)]

/-- Every word of the list, padding included, is a row number if every word of `A` is. -/
theorem list_rows (d : ScatterDims ⟨1, ![8192]⟩ ⟨1, ![1]⟩ ⟨1, ![8160]⟩) (x : IVec ⟨1, ![8192]⟩ 32) (hx : ∀ i, x i = 0#32) (idx : IVec ⟨1, ![1]⟩ 32)
    (A : IVec SA 32) (hA : Rows A) (hs : SA.Slices ![1, 0] SB) (h1 : SB.ShapeCasts ⟨1, ![8160]⟩)
    (h2 : (⟨1, ![8192]⟩ : Shape).ShapeCasts ⟨2, ![64, 128]⟩) (j : (⟨2, ![64, 128]⟩ : Shape).Idx) :
    (shapeCast ⟨2, ![64, 128]⟩ (Host.scatter d (fun _ b => b) x idx (shapeCast ⟨1, ![8160]⟩ (extractStridedSlice SB ![1, 0] A hs) h1)) h2 j).toNat < 100000 := by
  refine Routing.scatter_forall d (fun _ b => b) (fun v : BitVec 32 => v.toNat < 100000) (fun _ _ _ h => h) x idx _ (fun i => by rw [hx i]; decide) (fun k => ?_) _
  exact Nat.lt_trans (hA _) (by decide)

/-! ## The result -/

/-- What both programs return for a table `E`: row `A (1 + a, b)` of it at `(a, b)`. -/
def found {α : Type} (A : IVec SA 32) (hA : Rows A) (E : SE.Idx → α) : SO.Idx → α := fun j =>
  E (ix2 ⟨(A (ix2 ⟨1 + (j 0).val, by have : (j 0).val < 510 := (j 0).isLt; omega⟩ (j 1))).toNat, Nat.lt_trans (hA _) (by decide)⟩ (j 2))

/-- The kernel's rows, cut to the first 8160 and put in their places. -/
theorem cut_read {α : Type} (X : (⟨2, ![8192, 128]⟩ : Shape).Idx → α) (hs : (⟨2, ![8192, 128]⟩ : Shape).Slices ![0, 0] ⟨2, ![8160, 128]⟩)
    (h1 : (⟨2, ![8160, 128]⟩ : Shape).ShapeCasts SO) (a : Fin 510) (b : Fin 16) (c : Fin 128) :
    shapeCast SO (extractStridedSlice ⟨2, ![8160, 128]⟩ ![0, 0] X hs) h1 (ix3 a b c) = X (ix2 ⟨16 * a.val + b.val, by omega⟩ c) := by
  rw [shapeCast_apply _ h1 _ (ix2 ⟨16 * a.val + b.val, by omega⟩ c) (by
      rw [Shape.rowMajor_val_two, Shape.rowMajor_val_three]
      show (16 * a.val + b.val) * 128 + c.val = (a.val * 16 + b.val) * 128 + c.val; omega),
    extractStridedSlice_apply _ _ hs _ (ix2 ⟨16 * a.val + b.val, by omega⟩ c) (fun q => by
      match q with
      | ⟨0, _⟩ => exact (Nat.zero_add _).symm
      | ⟨1, _⟩ => exact (Nat.zero_add _).symm)]

theorem pair_eq {n0 n1 : Nat} (a : Fin n0) (b : Fin n1) : Shape.pair (d := ![n0, n1]) a b = ix2 a b := by
  funext q
  match q with
  | ⟨0, _⟩ => rfl
  | ⟨1, _⟩ => rfl

/-! ## The reference's lookup -/

/-- The dimension numbers of a lookup of whole rows. -/
abbrev rowDims (wf : GatherDims.WF SE SB1 SO [2] [0] [] [0] [] 2 ![1, 128]) : GatherDims SE SB1 SO where
  offsetDims := [2]
  collapsedSliceDims := [0]
  operandBatchingDims := []
  startIndicesBatchingDims := []
  startIndexMap := [0]
  indexVectorDim := 2
  sliceSizes := ![1, 128]
  wf := wf

/-- The lookup at a row number that is one. -/
theorem gather_read {α : Type} (wf : GatherDims.WF SE SB1 SO [2] [0] [] [0] [] 2 ![1, 128]) (E : SE.Idx → α) (idx : IVec SB1 32)
    (a : Fin 510) (b : Fin 16) (c : Fin 128) (n : Nat) (hn : n < 100000) (hi : (idx (ix3 a b (0 : Fin 1))).toNat = n) :
    Host.gather (rowDims wf) E idx (ix3 a b c) = E (ix2 ⟨n, hn⟩ c) := by
  unfold Host.gather
  refine congrArg E (funext fun q => Fin.ext ?_)
  match q with
  | ⟨0, _⟩ =>
    show (rowDims wf).start (ix3 a b c) idx 0 + (rowDims wf).batchCoord (ix3 a b c) 0 + (rowDims wf).offCoord (ix3 a b c) 0 = n
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims wf).startIndexMap from List.mem_singleton.mpr rfl)]
    have hsi : (rowDims wf).siIdx (ix3 a b c) ⟨List.idxOf (0 : Fin 2) (rowDims wf).startIndexMap,
        List.idxOf_lt_length_iff.2 (List.mem_singleton.mpr rfl)⟩ = ix3 a b (0 : Fin 1) := by
      funext k; refine Fin.ext ?_
      match k with
      | ⟨0, _⟩ => rfl
      | ⟨1, _⟩ => rfl
      | ⟨2, _⟩ => rfl
    rw [hsi]
    show min _ (100000 - 1) + 0 + 0 = n
    rw [BitVec.toInt_eq_toNat_cond, hi, if_pos (by omega)]
    omega
  | ⟨1, _⟩ =>
    show (rowDims wf).start (ix3 a b c) idx 1 + (rowDims wf).batchCoord (ix3 a b c) 1 + (rowDims wf).offCoord (ix3 a b c) 1 = c.val
    rw [GatherDims.batchCoord_eq_zero _ _ _ List.not_mem_nil]
    unfold GatherDims.start
    rw [dif_neg (show ¬ (1 : Fin 2) ∈ ([0] : List (Fin 2)) by decide)]
    show 0 + 0 + c.val = c.val
    omega

section Lookup

variable (A : IVec SA 32) (hs : SA.Slices ![1, 0] SB) (b0 : S0.BroadcastsInDim SB ![]) (b1 : SB.BroadcastsInDim SB1 ![0, 1])

/-- The reference's indices: rows 1 to 510 of `A`, a negative one wrapped. -/
abbrev wrapped : IVec SB1 32 :=
  broadcastInDim SB1 ![0, 1] b1 (select (cmpi .slt (extractStridedSlice SB ![1, 0] A hs) (broadcastInDim SB ![] b0 (constantI S0 32 0#32)))
    (addi (extractStridedSlice SB ![1, 0] A hs) (broadcastInDim SB ![] b0 (constantI S0 32 100000#32))) (extractStridedSlice SB ![1, 0] A hs))

/-- They are the row numbers. -/
theorem wrapped_read (hA : Rows A) (a : Fin 510) (b : Fin 16) : wrapped A hs b0 b1 (ix3 a b (0 : Fin 1)) = A (ix2 ⟨1 + a.val, by omega⟩ b) := by
  have hsl : extractStridedSlice SB ![1, 0] A hs (ix2 a b) = A (ix2 ⟨1 + a.val, by omega⟩ b) :=
    extractStridedSlice_apply _ _ hs _ _ fun q => by
      match q with
      | ⟨0, _⟩ => rfl
      | ⟨1, _⟩ => exact (Nat.zero_add _).symm
  unfold wrapped
  rw [broadcastInDim_apply _ b1 _ _ (ix2 a b) (fun q => by
    match q with
    | ⟨0, _⟩ => rfl
    | ⟨1, _⟩ => rfl), select_apply]
  have hlt := hA (ix2 ⟨1 + a.val, by omega⟩ b)
  have hc : cmpi .slt (extractStridedSlice SB ![1, 0] A hs) (broadcastInDim SB ![] b0 (constantI S0 32 0#32)) (ix2 a b) = 0#1 := by
    refine eq_zero_of_ne_one fun h => ?_
    simp only [cmpi, hsl, broadcastInDim, constantI, IntOp.cmpi, bit_one, BitVec.slt_eq_decide, decide_eq_true_eq, BitVec.toInt_eq_toNat_cond,
      BitVec.toNat_ofNat, Nat.reducePow, Nat.reduceMod] at h
    omega
  rw [hc, select_zero, hsl]

/-- The whole lookup: the gathered row where the index passes the check, which it always does. -/
theorem lookup_read {F : FTy → Type} [FloatOps F] (hA : Rows A) (wf : GatherDims.WF SE SB1 SO [2] [0] [] [0] [] 2 ![1, 128]) (E : FVec F SE .f32)
    (b2 : S0.BroadcastsInDim SB1 ![]) (b3 : (⟨1, ![1]⟩ : Shape).BroadcastsInDim ⟨3, ![1, 1, 1]⟩ ![2]) (b4 : (⟨3, ![1, 1, 1]⟩ : Shape).BroadcastsInDim SB1 ![0, 1, 2])
    (hr : SB1.ReducesTo [2] SB) (h0 : 0 < S0.numel) (b5 : SB.BroadcastsInDim SO ![0, 1]) (N : FVec F SO .f32) (a : Fin 510) (b : Fin 16) (c : Fin 128) :
    select (broadcastInDim SO ![0, 1] b5 (Host.reduce IntOp.andi (andi (cmpi .sge (wrapped A hs b0 b1) (broadcastInDim SB1 ![] b2 (constantI S0 32 0#32)))
        (cmpi .sle (wrapped A hs b0 b1) (broadcastInDim SB1 ![0, 1, 2] b4 (broadcastInDim ⟨3, ![1, 1, 1]⟩ ![2] b3 (constantI ⟨1, ![1]⟩ 32 99999#32)))))
        (constantI S0 1 1#1) hr h0)) (Host.gather (rowDims wf) E (wrapped A hs b0 b1)) N (ix3 a b c)
      = E (ix2 ⟨(A (ix2 ⟨1 + a.val, by omega⟩ b)).toNat, Nat.lt_trans (hA _) (by decide)⟩ c) := by
  rw [select_apply, broadcastInDim_apply _ b5 _ _ (ix2 a b) (fun q => by
    match q with
    | ⟨0, _⟩ => rfl
    | ⟨1, _⟩ => rfl), Host.reduce_andi_one _ _ _ _ _ rfl (fun i => ?_), select_one]
  · exact gather_read wf E _ a b c _ _ (congrArg BitVec.toNat (wrapped_read A hs b0 b1 hA a b))
  · have hi : wrapped A hs b0 b1 i = A (ix2 ⟨1 + (i 0).val, by have : (i 0).val < 510 := (i 0).isLt; omega⟩ (i 1)) := by
      rw [eq_ix3 i]
      rw [show i 2 = (0 : Fin 1) from Subsingleton.elim (α := Fin 1) _ _]
      exact wrapped_read A hs b0 b1 hA (i 0) (i 1)
    have hlt := hA (ix2 ⟨1 + (i 0).val, by have : (i 0).val < 510 := (i 0).isLt; omega⟩ (i 1))
    rw [← hi] at hlt
    simp only [andi, cmpi, broadcastInDim, constantI, IntOp.cmpi, andi_bits, bit_one, Bool.and_eq_true, BitVec.sle_eq_decide, decide_eq_true_eq,
      BitVec.toInt_eq_toNat_cond, BitVec.toNat_ofNat, Nat.reducePow, Nat.reduceMod] at hlt ⊢
    omega

/-- So the lookup is what both programs return. -/
theorem lookup_found {F : FTy → Type} [FloatOps F] (hA : Rows A) (wf : GatherDims.WF SE SB1 SO [2] [0] [] [0] [] 2 ![1, 128]) (E : FVec F SE .f32)
    (b2 : S0.BroadcastsInDim SB1 ![]) (b3 : (⟨1, ![1]⟩ : Shape).BroadcastsInDim ⟨3, ![1, 1, 1]⟩ ![2]) (b4 : (⟨3, ![1, 1, 1]⟩ : Shape).BroadcastsInDim SB1 ![0, 1, 2])
    (hr : SB1.ReducesTo [2] SB) (h0 : 0 < S0.numel) (b5 : SB.BroadcastsInDim SO ![0, 1]) (N : FVec F SO .f32) :
    select (broadcastInDim SO ![0, 1] b5 (Host.reduce IntOp.andi (andi (cmpi .sge (wrapped A hs b0 b1) (broadcastInDim SB1 ![] b2 (constantI S0 32 0#32)))
        (cmpi .sle (wrapped A hs b0 b1) (broadcastInDim SB1 ![0, 1, 2] b4 (broadcastInDim ⟨3, ![1, 1, 1]⟩ ![2] b3 (constantI ⟨1, ![1]⟩ 32 99999#32)))))
        (constantI S0 1 1#1) hr h0)) (Host.gather (rowDims wf) E (wrapped A hs b0 b1)) N
      = found A hA E := by
  funext j
  rw [eq_ix3 j]
  exact lookup_read A hs b0 b1 hA wf E b2 b3 b4 hr h0 b5 N (j 0) (j 1) (j 2)

end Lookup

end Cert.Proof.Values

end
-- ==== Proof.ResultKernel.lean ====
/-
  What the kernel program's run leaves: its arguments as they were. The contents at the end are the fold of @main's operations around the
  call (RunKernel), read back here at the arguments and at the list of row numbers.
-/
module

public import proofs.«01_k».proof.Proof.RunKernel
public import proofs.«01_k».proof.Proof.Values

@[expose] public section

noncomputable section

namespace Cert.Proof.RunKernel

open Cert.Kernel Cert.Kernel.Gen Cert.Proof.Values

open Idealize.ShloMosaic Idealize.ShloMosaic.TcCoe
open Idealize.SL.Sem
open Idealize.ShloMosaic.StableHlo
open Idealize.ShloMosaic.Pipeline (ucRefs)

variable {F : FTy → Type} [FloatOps F]

/-! ## What @main does not write -/

/-- The buffers written before the call, -/
abbrev preW : List (Ref sig .tc) := [main_v0, main_v1, main_c, main_v2, main_c_0, main_v3, main_v4, main_v5]
/-- and after it. -/
abbrev postW : List (Ref sig .tc) :=
  [main_v7, main_v8, main_v9, main_v10, main_v11, main_v12, main_c_1, main_v13, main_v14, main_v15, main_v16, main_v17, main_v18, main_v19,
   main_v20, main_v21, main_c_2, main_v22, main_v23, main_c_3, main_v24, main_v25, main_v26, main_v27, main_v28, main_v29]

theorem pre_writes : (preOps : List (HloOp τ sig (Elt F))).map HloOp.writes = preW.map fun r => {Proc.devRef .tc r} := rfl
theorem post_writes : (postOps : List (HloOp τ sig (Elt F))).map HloOp.writes = postW.map fun r => {Proc.devRef .tc r} := rfl

variable (m : (ℓ : Loc nD τ sig) → Buf (Elt F) ℓ) (ρ : Dev nD → PrngReg)

theorem Vc_kept (d : Dev nD) (r : Ref sig .tc) (h : r ∉ preW) : Vc m d (Proc.devRef .tc r) = m ((d.tc : Thread nD τ).loc r) :=
  after_of_writes_sub preOps _ (forall_writes_sub_of_map pre_writes) h

theorem Vf_kept (d : Dev nD) (r : Ref sig .tc) (h : r ∉ preW) (h' : r ∉ postW) (ho : (Proc.devRef .tc r : DevRef τ sig) ≠ o')
    (hp : (Proc.devRef .tc r : DevRef τ sig) ≠ p') : Vf m d (Proc.devRef .tc r) = m ((d.tc : Thread nD τ).loc r) :=
  (after_of_writes_sub postOps _ (forall_writes_sub_of_map post_writes) h').trans
    ((Function.update_of_ne hp _ _).trans ((Function.update_of_ne ho _ _).trans (Vc_kept m d r h)))

/-! ## The list at the call -/

/-- The row numbers the program is launched with, on device `d`. -/
abbrev rowsAt (d : Dev nD) : IVec SA 32 := m ((d.tc : Thread nD τ).loc main_arg0)

theorem Vc_list (d : Dev nD) : Vc m d i' = shapeCast S64x128 (Host.scatter scatter_S8192_S1_S8160_0_n_0_0 (fun _ b => b)
    (broadcastInDim S8192 ![] bcast_S_S8192 (constantI S_ 32 0#32)) (broadcastInDim S1 ![] bcast_S_S1 (constantI S_ 32 0#32))
    (shapeCast S8160 (extractStridedSlice S510x16 ![1, 0] (rowsAt m d) slices_S512x16_S510x16_1_0) shapeCasts_S510x16_S8160)) shapeCasts_S8192_S64x128 := by
  unfold Vc
  simp only [preOps]
  after_results_simp <;> rfl

/-- The tasks may read with the list: every word of it is a row of the tables. -/
theorem preOK (hA : ∀ d, Rows (rowsAt m d)) : PreOK m := fun d j => by
  show BitVec.toNat (Vc m d i' j) < _
  rw [Vc_list m d]
  exact list_rows _ _ (fun _ => rfl) _ _ (hA d) _ _ _ j

/-! ## The run -/

/-- From row numbers that are some, every execution ends with each buffer @main names at `Vf` and every counter at zero. -/
theorem run_read [∀ e, Nonempty (Elt F e)] (hA : ∀ d, Rows (rowsAt m d)) :
    θ_run (defs (F := F)) (threads (F := F)) ⟨m, fun _ => 0, ρ⟩ fun r =>
      (∀ (c : Dev nD) (b : Ref sig .tc), (Proc.devRef .tc b : DevRef τ sig) ∈ ucRefs τ sig → r.2.mem ((c.tc : Thread nD τ).loc b) = Vf m c (Proc.devRef .tc b))
      ∧ r.2.sem = fun _ => 0 :=
  (θ_run (defs (F := F)) _ _).mono (fun _ h => ⟨fun c b hb => h.1 c _ hb, h.2⟩) (run_main m ρ (preOK m hA))

/-- The arguments end as they were, every counter at zero. -/
theorem frame [∀ e, Nonempty (Elt F e)] (hA : ∀ d, Rows (rowsAt m d)) :
    θ_run (defs (F := F)) (threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  have kept : ∀ (r : PUnit × MemSt nD τ sig (Elt F)) (c : Dev nD) (b : Ref sig .tc),
      (∀ (c : Dev nD) (b : Ref sig .tc), (Proc.devRef .tc b : DevRef τ sig) ∈ ucRefs τ sig → r.2.mem ((c.tc : Thread nD τ).loc b) = Vf m c (Proc.devRef .tc b)) →
      (Proc.devRef .tc b : DevRef τ sig).isScoped = false → b ∉ preW → b ∉ postW → (Proc.devRef .tc b : DevRef τ sig) ≠ o' → (Proc.devRef .tc b : DevRef τ sig) ≠ p' →
      r.2.mem ((c.tc : Thread nD τ).loc b) = m ((c.tc : Thread nD τ).loc b) := fun r c b h hs h1 h2 h3 h4 =>
    (h c b (Finset.mem_filter.mpr ⟨devRef_mem_tcRefs _, by simp [hs]⟩)).trans (Vf_kept m c b h1 h2 h3 h4)
  (θ_run (defs (F := F)) _ _).mono (fun r h => ⟨fun c =>
      ⟨kept r c main_arg0 h.1 (by decide) (by decide) (by decide) (by decide) (by decide), kept r c main_arg1 h.1 (by decide) (by decide) (by decide) (by decide) (by decide),
        kept r c main_arg2 h.1 (by decide) (by decide) (by decide) (by decide) (by decide), kept r c main_arg3 h.1 (by decide) (by decide) (by decide) (by decide) (by decide),
        kept r c main_arg4 h.1 (by decide) (by decide) (by decide) (by decide) (by decide)⟩, h.2⟩) (run_read m ρ hA)

end Cert.Proof.RunKernel

end
-- ==== Proof.TaskKernelIdeal.lean ====
/-
  One task of `KernelIdeal`'s SparseCore call: tile `(L 0, L 1)` is task `w = 2 · L 1 + L 0` of 32. It fetches its two
  rows of 128 row numbers, gathers by each the rows of both tables — four indirect gathers, two outstanding on each of two
  semaphores (Streams.lean) — and writes the two blocks of 256 gathered rows out. `task` is its run WITH THE VALUES: it leaves its
  block of each output at the rows of the table the 8192 row numbers name (`picked`).
-/
module

public import proofs.«01_k».proof.Defs
public import proofs.«01_k».proof.Proof.Streams
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.ValueKit.Geometry
public import proofs.«01_k».proof.Proof.Gen.KernelIdeal
public import proofs.«01_k».proof.Proof.Gen.KernelIdeal.Skeleton

@[expose] public section

noncomputable section

namespace Cert.Proof.RunKernelIdeal

open Cert.KernelIdeal Cert.KernelIdeal.Gen Cert.Proof.Streams

open Idealize.ShloMosaic
open Idealize.ShloMosaic.SparseCore (V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

abbrev eLoc (d : Dev nD) : Loc nD τ sig := (SparseCore.T d).loc main_arg1
abbrev aLoc (d : Dev nD) : Loc nD τ sig := (SparseCore.T d).loc main_arg2
abbrev iLoc (d : Dev nD) : Loc nD τ sig := (SparseCore.T d).loc main_v5
abbrev oLoc (d : Dev nD) : Loc nD τ sig := (SparseCore.T d).loc main_v6_0
abbrev pLoc (d : Dev nD) : Loc nD τ sig := (SparseCore.T d).loc main_v6_1

local notation "eV" => (Memref.whole Cert.KernelIdeal.main_arg1_scv : Memref Cert.KernelIdeal.sig Kind.scVector Space.hbm Cert.KernelIdeal.S100000x128 EltTy.f32)
local notation "aV" => (Memref.whole Cert.KernelIdeal.main_arg2_scv : Memref Cert.KernelIdeal.sig Kind.scVector Space.hbm Cert.KernelIdeal.S100000x128 EltTy.f32)
local notation "iV" => (Memref.whole Cert.KernelIdeal.main_v5_scv : Memref Cert.KernelIdeal.sig Kind.scVector Space.hbm Cert.KernelIdeal.S64x128 EltTy.i32)
local notation "oV" => (Memref.whole Cert.KernelIdeal.main_v6_0_scv : Memref Cert.KernelIdeal.sig Kind.scVector Space.hbm Cert.KernelIdeal.S8192x128 EltTy.f32)
local notation "pV" => (Memref.whole Cert.KernelIdeal.main_v6_1_scv : Memref Cert.KernelIdeal.sig Kind.scVector Space.hbm Cert.KernelIdeal.S8192x128 EltTy.f32)
local notation "lV" => (Memref.whole Cert.KernelIdeal.cc0_scratch0 : Memref Cert.KernelIdeal.sig Kind.scVector Space.vmem Cert.KernelIdeal.S2x128 EltTy.i32)
local notation "rV" => (Memref.whole Cert.KernelIdeal.cc0_scratch1 : Memref Cert.KernelIdeal.sig Kind.scVector Space.vmem Cert.KernelIdeal.S256x128 EltTy.f32)
local notation "tV" => (Memref.whole Cert.KernelIdeal.cc0_scratch2 : Memref Cert.KernelIdeal.sig Kind.scVector Space.vmem Cert.KernelIdeal.S256x128 EltTy.f32)

/-- Row `r` of the result is row `I(r / 128, r % 128)` of the table. -/
def picked (I : S64x128.Idx → Elt F .i32) (E : S100000x128.Idx → Elt F .f32) : S8192x128.Idx → Elt F .f32 := fun j =>
  E (Shape.pair (d := ![100000, 128])
    ⟨(show BitVec 32 from I (Shape.pair (d := ![64, 128]) ⟨(j 0).val / 128, by have := (j 0).isLt; change (j 0).val < 8192 at this; change _ < 64; omega⟩
      ⟨(j 0).val % 128, Nat.mod_lt _ (by decide)⟩)).toNat % 100000, Nat.mod_lt _ (by decide)⟩ (j 1))

/-! ## Who has which part -/

theorem idiv : 32 ∣ S64x128.size 0 := ⟨2, rfl⟩
theorem odiv : 32 ∣ S8192x128.size 0 := ⟨256, rfl⟩
abbrev irow (w : Fin 32) : Rect S64x128 := Rect.part (s := S64x128) (a₀ := 0) idiv w
abbrev orow (w : Fin 32) : Rect S8192x128 := Rect.part (s := S8192x128) (a₀ := 0) odiv w
abbrev iSet (w : Fin 32) : Finset S64x128.Idx := (irow w).set
abbrev oSet (w : Fin 32) : Finset S8192x128.Idx := (orow w).set

/-- Task `w`'s share of each table. -/
abbrev shareOf (w : Fin 32) : PosShare TreeShare := pieceOf fullShare 32 (by decide) w

/-- The task on tile `i` of SparseCore `c`. -/
abbrev taskOf (c : Fin 2) (i : Fin 16) : Fin 32 := finProdFinEquiv (m := 16) (n := 2) (i, c)

/-- What a task holds of the call's arrays, at contents `V` but the outputs at `X` and `Y`. -/
def part (d : Dev nD) (w : Fin 32) (V : Valuation τ sig (Elt F)) (X : Buf (Elt F) (oLoc d)) (Y : Buf (Elt F) (pLoc d)) : sProp 𝕄 :=
  iprop((iLoc d ↦[iSet w]{fullShare} V (Proc.devRef .tc main_v5)) ∗ (eLoc d ↦{shareOf w} V (Proc.devRef .tc main_arg1))
    ∗ (aLoc d ↦{shareOf w} V (Proc.devRef .tc main_arg2)) ∗ (oLoc d ↦[oSet w]{fullShare} X) ∗ (pLoc d ↦[oSet w]{fullShare} Y))

instance part_storable (d : Dev nD) (w : Fin 32) (V : Valuation τ sig (Elt F)) (X : Buf (Elt F) (oLoc d)) (Y : Buf (Elt F) (pLoc d)) :
    BI.Storable (upEmb : UEmb _ 𝕄) (part d w V X Y) := by unfold part; infer_instance

/-- The outputs of the call from contents `V`. -/
abbrev X1 (d : Dev nD) (V : Valuation τ sig (Elt F)) : Buf (Elt F) (oLoc d) := picked (V (Proc.devRef .tc main_v5)) (V (Proc.devRef .tc main_arg1))
abbrev X2 (d : Dev nD) (V : Valuation τ sig (Elt F)) : Buf (Elt F) (pLoc d) := picked (V (Proc.devRef .tc main_v5)) (V (Proc.devRef .tc main_arg2))

/-- What the proof asks of the contents at the call: every row number is a row of the tables. -/
def InRange (V : Valuation τ sig (Elt F)) : Prop := ∀ j : S64x128.Idx, (show BitVec 32 from (V (Proc.devRef .tc main_v5) : S64x128.Idx → Elt F .i32) j).toNat < 100000

/-! ## The tile's memrefs -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := taskOf (Fin.cast bound_zero (L 0)) (Fin.cast bound_one (L 1))

abbrev iK (L : grid0.Coords) : Memref sig .scVector .hbm S2x128 .i32 := (iV).slice (Rect.unit (s := S64x128) (k0_off1 L) S2x128.size (k0_off1_inb L)) (fun _ => rfl)
abbrev oK (L : grid0.Coords) : Memref sig .scVector .hbm S256x128 .f32 := (oV).slice (Rect.unit (s := S8192x128) (k0_off2 L) S256x128.size (k0_off2_inb L)) (fun _ => rfl)
abbrev pK (L : grid0.Coords) : Memref sig .scVector .hbm S256x128 .f32 := (pV).slice (Rect.unit (s := S8192x128) (k0_off2 L) S256x128.size (k0_off2_inb L)) (fun _ => rfl)
/-- All of a table, as the gathers name it. -/
abbrev allOf (t : Memref sig .scVector .hbm S100000x128 .f32) : Memref sig .scVector .hbm S100000x128 .f32 :=
  t.slice (Rect.unit (s := S100000x128) ![0, 0] S100000x128.size inb_S100000x128_S100000x128_0_0) (fun _ => rfl)
/-- A row of the list buffer, and a half of a row buffer. -/
abbrev listAt (a : ℕ) (inb : ∀ b, (![a, 0] : Fin 2 → ℕ) b + S1x128.size b ≤ S2x128.size b) : Memref sig .scVector .vmem S128 .i32 :=
  ((lV).slice (Rect.unit (s := S2x128) ![a, 0] S1x128.size inb) (fun _ => rfl)).squeeze S128 squeezes_S1x128_S128
abbrev halfAt (r : Memref sig .scVector .vmem S256x128 .f32) (a : ℕ) (inb : ∀ b, (![a, 0] : Fin 2 → ℕ) b + S128x128.size b ≤ S256x128.size b) :
    Memref sig .scVector .vmem S128x128 .f32 :=
  r.slice (Rect.unit (s := S256x128) ![a, 0] S128x128.size inb) (fun _ => rfl)
abbrev l0 : Memref sig .scVector .vmem S128 .i32 := listAt 0 inb_S2x128_S1x128_0_0
abbrev l1 : Memref sig .scVector .vmem S128 .i32 := listAt 1 inb_S2x128_S1x128_1_0
abbrev lo (r : Memref sig .scVector .vmem S256x128 .f32) : Memref sig .scVector .vmem S128x128 .f32 := halfAt r 0 inb_S256x128_S128x128_0_0
abbrev hi (r : Memref sig .scVector .vmem S256x128 .f32) : Memref sig .scVector .vmem S128x128 .f32 := halfAt r 128 inb_S256x128_S128x128_128_0

theorem wL_val : (wL L).val = (L 0 : ℕ) + 2 * (L 1 : ℕ) := rfl

theorem irow_eq : Rect.unit (s := S64x128) (k0_off1 L) S2x128.size (k0_off1_inb L) = irow (wL L) := by
  unfold irow Rect.part Rect.block
  congr 1 <;> funext a
  · rw [k0_off1_eq]
    match a with
    | 0 => have := wL_val L; simp only [Shape.partIx, Shape.partSize, if_pos]; show 4 * (L 1 : ℕ) + 2 * (L 0 : ℕ) = (wL L).val * 2; omega
    | 1 => simp [Shape.partIx, Shape.partSize]
  · match a with
    | 0 => simp [Shape.partSize]
    | 1 => simp [Shape.partSize]

theorem orow_eq : Rect.unit (s := S8192x128) (k0_off2 L) S256x128.size (k0_off2_inb L) = orow (wL L) := by
  unfold orow Rect.part Rect.block
  congr 1 <;> funext a
  · rw [k0_off2_eq]
    match a with
    | 0 => have := wL_val L; simp only [Shape.partIx, Shape.partSize, if_pos]; show 512 * (L 1 : ℕ) + 256 * (L 0 : ℕ) = (wL L).val * 256; omega
    | 1 => simp [Shape.partIx, Shape.partSize]
  · match a with
    | 0 => simp [Shape.partSize]
    | 1 => simp [Shape.partSize]

theorem set_iK : (iK L).view.set = iSet (wL L) :=
  (View.set_slice_whole (main_v5_scv : Ref sig .scVector) _).trans (irow_eq L ▸ rfl)
theorem set_oRect : (Rect.unit (s := S8192x128) (k0_off2 L) S256x128.size (k0_off2_inb L)).set = oSet (wL L) := orow_eq L ▸ rfl
theorem set_oK : (oK L).view.set = oSet (wL L) :=
  (View.set_slice_whole (main_v6_0_scv : Ref sig .scVector) _).trans (set_oRect L)
theorem set_pK : (pK L).view.set = oSet (wL L) :=
  (View.set_slice_whole (main_v6_1_scv : Ref sig .scVector) _).trans (set_oRect L)

theorem pts_iK (f : Buf (Elt F) (iLoc d)) :
    ((iK L).view.loc (V d (cV L) (jV L)) ↦[(iK L).view.set]{fullShare} f : sProp 𝕄) = iLoc d ↦[iSet (wL L)]{fullShare} f := by
  rw [set_iK]
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
theorem pts_pK (f : Buf (Elt F) (pLoc d)) :
    ((pK L).view.loc (V d (cV L) (jV L)) ↦[(pK L).view.set]{fullShare} f : sProp 𝕄) = pLoc d ↦[oSet (wL L)]{fullShare} f := by
  rw [set_pK]

theorem set_all : (Rect.unit (s := S100000x128) ![0, 0] S100000x128.size inb_S100000x128_S100000x128_0_0).set = Finset.univ :=
  Finset.eq_univ_of_forall fun i => Rect.mem_set_unit.mpr fun a => by
    have := (i a).isLt
    match a with
    | 0 => exact ⟨Nat.zero_le _, by simpa using this⟩
    | 1 => exact ⟨Nat.zero_le _, by simpa using this⟩
theorem set_eAll : (allOf eV).view.set = Finset.univ := (View.set_slice_whole (main_arg1_scv : Ref sig .scVector) _).trans set_all
theorem set_aAll : (allOf aV).view.set = Finset.univ := (View.set_slice_whole (main_arg2_scv : Ref sig .scVector) _).trans set_all

theorem set_listAt (a : ℕ) (inb) : ((listAt a inb).view.set : Finset S2x128.Idx) = (Rect.unit (s := S2x128) ![a, 0] S1x128.size inb).set :=
  (View.set_reshape _ _).trans (View.set_slice_whole (cc0_scratch0 : Ref sig .scVector) _)

theorem compl_list : (Finset.univ : Finset S2x128.Idx) \ (l0).view.set = (l1).view.set := by
  rw [set_listAt, set_listAt]
  ext i
  have h0 : (i 0).val < 2 := (i 0).isLt
  have h1 : (i 1).val < 128 := (i 1).isLt
  rw [Finset.mem_sdiff, Rect.mem_set_unit, Rect.mem_set_unit, Fin.forall_fin_two, Fin.forall_fin_two]
  simp
  omega

theorem compl_half : (Finset.univ : Finset S256x128.Idx) \ (Rect.unit (s := S256x128) ![0, 0] S128x128.size inb_S256x128_S128x128_0_0).set
    = (Rect.unit (s := S256x128) ![128, 0] S128x128.size inb_S256x128_S128x128_128_0).set := by
  ext i
  have h0 : (i 0).val < 256 := (i 0).isLt
  have h1 : (i 1).val < 128 := (i 1).isLt
  rw [Finset.mem_sdiff, Rect.mem_set_unit, Rect.mem_set_unit, Fin.forall_fin_two, Fin.forall_fin_two]
  simp
  omega

theorem set_rHalf (a : ℕ) (inb) : ((halfAt rV a inb).view.set : Finset S256x128.Idx) = (Rect.unit (s := S256x128) ![a, 0] S128x128.size inb).set :=
  View.set_slice_whole (cc0_scratch1 : Ref sig .scVector) _
theorem set_tHalf (a : ℕ) (inb) : ((halfAt tV a inb).view.set : Finset S256x128.Idx) = (Rect.unit (s := S256x128) ![a, 0] S128x128.size inb).set :=
  View.set_slice_whole (cc0_scratch2 : Ref sig .scVector) _

/-! ## The values -/

/-- The task's two rows of row numbers, as its fetch lands them. -/
abbrev idxs (V : Valuation τ sig (Elt F)) : S2x128.Idx → Elt F .i32 := (iK L).view.read (Elt F) (V (Proc.devRef .tc main_v5))
/-- The task's block of a result, gathered from table `E`. -/
abbrev got (V : Valuation τ sig (Elt F)) (E : S100000x128.Idx → Elt F .f32) : S256x128.Idx → Elt F .f32 :=
  (oK L).view.read (Elt F) (picked (V (Proc.devRef .tc main_v5)) E)

theorem idxs_apply (V : Valuation τ sig (Elt F)) (j : S2x128.Idx) :
    idxs L V j = (V (Proc.devRef .tc main_v5) : S64x128.Idx → Elt F .i32) ((iK L).view.emb j) := (View.read_apply _ _).trans (cast_eq _ _)

theorem list_apply (f : S2x128.Idx → Elt F .i32) (a : ℕ) (inb) (x : S128.Idx) :
    (listAt a inb).view.read (Elt F) f x = f ((listAt a inb).view.emb x) := (View.read_apply _ _).trans (cast_eq _ _)

/-- A list's words are rows of the tables. -/
theorem list_lt (V : Valuation τ sig (Elt F)) (hV : InRange V) (a : ℕ) (inb) :
    ∀ x, ((listAt a inb).view.read (Elt F) (idxs L V) x).toNat < S100000x128.size gathers_S100000x128_S128x128.axis := by
  intro x
  rw [list_apply, idxs_apply]
  exact hV _

theorem list_emb (a : ℕ) (inb) (x : S128.Idx) (h : a < 2) :
    ((listAt a inb).view.emb x : S2x128.Idx) = Shape.pair (d := ![2, 128]) ⟨a, h⟩ (x 0) := by
  have hx : Shape.reshapeEquiv (s := S1x128) (s' := S128) squeezes_S1x128_S128.numel_eq x = Fin.cons ⟨0, Nat.one_pos⟩ x :=
    Shape.reshapeEquiv_cons_one (n := 1) (d := ![128]) _ x
  show (Rect.unit (s := S2x128) ![a, 0] S1x128.size inb).emb (Shape.reshapeEquiv (s := S1x128) (s' := S128) squeezes_S1x128_S128.numel_eq x) = _
  rw [hx]
  funext b; apply Fin.ext
  rw [ValueKit.rect_emb_unit_val]
  match b with
  | 0 => rfl
  | 1 => exact Nat.zero_add _

theorem row_picked (V : Valuation τ sig (Elt F)) (hV : InRange V) (E : S100000x128.Idx → Elt F .f32) (a b : ℕ) (ha : a < 2) (hb : b = 128 * a) (inb inb')
    (hin) (x : S128x128.Idx) :
    SparseCore.gatherPayload gathers_S100000x128_S128x128 E (SparseCore.rows (si := S128) ((listAt a inb).view.read (Elt F) (idxs L V)) rfl hin) x
      = got L V E ((Rect.unit (s := S256x128) ![b, 0] S128x128.size inb').emb x) := by
  subst hb
  have hx0 : (x 0).val < 128 := (x 0).isLt
  have hd : got L V E ((Rect.unit (s := S256x128) ![128 * a, 0] S128x128.size inb').emb x)
      = picked (V (Proc.devRef .tc main_v5)) E ((Rect.unit (s := S8192x128) (k0_off2 L) S256x128.size (k0_off2_inb L)).emb
          ((Rect.unit (s := S256x128) ![128 * a, 0] S128x128.size inb').emb x)) := (View.read_apply _ _).trans (cast_eq _ _)
  rw [hd]
  unfold SparseCore.gatherPayload picked
  refine congrArg E (funext fun c => Fin.ext ?_)
  match c with
  | 0 =>
    refine (congrArg Fin.val (Shape.Gathers.idx_axis gathers_S100000x128_S128x128 _ x)).trans ?_
    show ((listAt a inb).view.read (Elt F) (idxs L V) _).toNat = _
    rw [list_apply, list_emb a inb _ ha, idxs_apply]
    refine Eq.trans ?_ (Nat.mod_eq_of_lt (hV _)).symm
    refine congrArg (fun i => BitVec.toNat (V (Proc.devRef .tc main_v5) i)) (funext fun c => Fin.ext ?_)
    refine (ValueKit.rect_emb_unit_val (s := S64x128) (k0_off1 L) S2x128.size (k0_off1_inb L) _ c).trans ?_
    have hrow : ((Rect.unit (s := S8192x128) (k0_off2 L) S256x128.size (k0_off2_inb L)).emb
        ((Rect.unit (s := S256x128) ![128 * a, 0] S128x128.size inb').emb x) 0 : ℕ) = 512 * (L 1).val + 256 * (L 0).val + (128 * a + (x 0).val) := by
      rw [ValueKit.rect_emb_unit_val, ValueKit.rect_emb_unit_val, k0_off2_eq]; rfl
    have hsymm : ((S128.rowMajor.symm (Fin.cast rfl (x 0))) 0 : ℕ) = (x 0).val := by
      rw [← Shape.rowMajor_val_one, Equiv.apply_symm_apply]; rfl
    match c with
    | 0 =>
      refine (congrArg (· + a) (congrFun (k0_off1_eq L) 0)).trans ?_
      show 4 * (L 1).val + 2 * (L 0).val + a = (_ : ℕ) / 128
      rw [hrow]; omega
    | 1 =>
      refine (congrArg (· + ((S128.rowMajor.symm (Fin.cast rfl (x 0))) 0 : ℕ)) (congrFun (k0_off1_eq L) 1)).trans ?_
      show 0 + ((S128.rowMajor.symm (Fin.cast rfl (x 0))) 0 : ℕ) = (_ : ℕ) % 128
      rw [hsymm, hrow]; omega
  | 1 =>
    refine (Shape.Gathers.idx_of_ne gathers_S100000x128_S128x128 _ x 1 (by decide)).trans ?_
    refine Eq.symm ((ValueKit.rect_emb_unit_val _ _ _ _ _).trans ?_)
    rw [ValueKit.rect_emb_unit_val, k0_off2_eq]
    simp

theorem read_eAll (E : S100000x128.Idx → Elt F .f32) : (allOf eV).view.read (Elt F) E = E :=
  funext fun x => ((View.read_apply _ _).trans (cast_eq _ _)).trans (congrArg E (funext fun b => Fin.ext (by
    refine (ValueKit.rect_emb_unit_val (s := S100000x128) ![0, 0] S100000x128.size inb_S100000x128_S100000x128_0_0 x b).trans ?_
    match b with
    | 0 => exact Nat.zero_add _
    | 1 => exact Nat.zero_add _)))
theorem read_aAll (E : S100000x128.Idx → Elt F .f32) : (allOf aV).view.read (Elt F) E = E := read_eAll E

/-- What a gather of table `eV` leaves in half `b` of its row buffer: the task's block there. -/
theorem landed_r (V : Valuation τ sig (Elt F)) (hV : InRange V) (E : S100000x128.Idx → Elt F .f32) (f : S256x128.Idx → Elt F .f32) (a b : ℕ) (ha : a < 2)
    (hb : b = 128 * a) (inb inb') (hin) :
    ∀ i ∈ (halfAt rV b inb').view.set, (halfAt rV b inb').view.write (Elt F) f (SparseCore.gatherPayload gathers_S100000x128_S128x128
      ((allOf eV).view.read (Elt F) E) (SparseCore.rows (si := S128) ((listAt a inb).view.read (Elt F) (idxs L V)) rfl hin)) Finset.univ i = got L V E i := by
  intro i hi
  obtain ⟨x, -, rfl⟩ := Finset.mem_map.mp hi
  rw [View.write_emb_of_mem _ _ (Finset.mem_univ x), read_eAll]
  exact (cast_eq _ _).trans (row_picked L V hV E a b ha hb inb inb' hin x)

theorem landed_t (V : Valuation τ sig (Elt F)) (hV : InRange V) (E : S100000x128.Idx → Elt F .f32) (f : S256x128.Idx → Elt F .f32) (a b : ℕ) (ha : a < 2)
    (hb : b = 128 * a) (inb inb') (hin) :
    ∀ i ∈ (halfAt tV b inb').view.set, (halfAt tV b inb').view.write (Elt F) f (SparseCore.gatherPayload gathers_S100000x128_S128x128
      ((allOf aV).view.read (Elt F) E) (SparseCore.rows (si := S128) ((listAt a inb).view.read (Elt F) (idxs L V)) rfl hin)) Finset.univ i = got L V E i :=
  landed_r L V hV E f a b ha hb inb inb' hin

/-- The block written out is the result's. -/
theorem out_o (V : Valuation τ sig (Elt F)) (E : S100000x128.Idx → Elt F .f32) (f : S8192x128.Idx → Elt F .f32) (w : S256x128.Idx → Elt F .f32) (hw : w = got L V E) :
    ∀ i ∈ (oK L).view.set, (oK L).view.write (Elt F) f w Finset.univ i = picked (V (Proc.devRef .tc main_v5)) E i := by
  subst hw
  intro i hi
  obtain ⟨x, -, rfl⟩ := Finset.mem_map.mp hi
  rw [View.write_emb_of_mem _ _ (Finset.mem_univ x)]
  exact (cast_eq _ _).trans ((View.read_apply _ _).trans (cast_eq _ _))

/-! ## The tile's own cells and buffers -/

abbrev cell (s : DmaSems sig S_) : GSem nD τ sig := (V d (cV L) (jV L), .dma s.sem)
abbrev buf (b : Ref sig .scVector) : DevRef τ sig := (Proc.scVector (cV L) (jV L)).devRef b

theorem cell_ne {s t : DmaSems sig S_} (h : (SemLoc.dma s.sem : SemLoc sig) ≠ .dma t.sem) : cell d L s ≠ cell d L t :=
  fun e => h (congrArg Prod.snd e)

theorem cell_mem (s : DmaSems sig S_) (h : (SemLoc.dma s.sem : SemLoc sig).isScoped .scVector = true) : cell d L s ∈ ownCells (V d (cV L) (jV L)) :=
  mem_ownCells.mpr ⟨rfl, h⟩

theorem ownSems0_V :
    (ownSems0 (V d (cV L) (jV L)) : sProp 𝕄)
      = iprop(semVal (cell d L cc0_scratch3) 0 ∗ semVal (cell d L cc0_scratch4) 0 ∗ semVal (cell d L cc0_scoped0) 0 ∗ semVal (cell d L cc0_scoped1) 0
          ∗ semVal (cell d L cc0_scoped2) 0
          ∗ bigSep ((((((ownCells (V d (cV L) (jV L))).erase (cell d L cc0_scratch3)).erase (cell d L cc0_scratch4)).erase (cell d L cc0_scoped0)).erase
              (cell d L cc0_scoped1)).erase (cell d L cc0_scoped2)) fun g => semVal g 0) := by
  unfold SparseCore.Cfg.ownSems0
  rw [SparseCore.bigSep_erase' (cell_mem d L cc0_scratch3 (by decide)),
    SparseCore.bigSep_erase' (i := cell d L cc0_scratch4) (by simp only [Finset.mem_erase]; exact ⟨cell_ne d L (by decide), cell_mem d L _ (by decide)⟩),
    SparseCore.bigSep_erase' (i := cell d L cc0_scoped0) (by
      simp only [Finset.mem_erase]; exact ⟨cell_ne d L (by decide), cell_ne d L (by decide), cell_mem d L _ (by decide)⟩),
    SparseCore.bigSep_erase' (i := cell d L cc0_scoped1) (by
      simp only [Finset.mem_erase]; exact ⟨cell_ne d L (by decide), cell_ne d L (by decide), cell_ne d L (by decide), cell_mem d L _ (by decide)⟩),
    SparseCore.bigSep_erase' (i := cell d L cc0_scoped2) (by
      simp only [Finset.mem_erase]
      exact ⟨cell_ne d L (by decide), cell_ne d L (by decide), cell_ne d L (by decide), cell_ne d L (by decide), cell_mem d L _ (by decide)⟩)]

theorem buf_ne {a b : Ref sig .scVector} (h : a ≠ b) : buf L a ≠ buf L b := fun e => h (Proc.devRef_injective _ e)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (buf L cc0_scratch0)).erase (buf L cc0_scratch1)).erase (buf L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := buf L cc0_scratch0) rfl)).trans ?_
  rw [SparseCore.bigSep_erase' (i := buf L cc0_scratch1) (by
      simp only [Finset.mem_erase]
      exact ⟨buf_ne L (by decide), SparseCore.Cfg.mem_ownRefs_of_owner (p := Proc.scVector (cV L) (jV L)) (b := buf L cc0_scratch1) rfl⟩),
    SparseCore.bigSep_erase' (i := buf L cc0_scratch2) (by
      simp only [Finset.mem_erase]
      exact ⟨buf_ne L (by decide), buf_ne L (by decide), SparseCore.Cfg.mem_ownRefs_of_owner (p := Proc.scVector (cV L) (jV L)) (b := buf L cc0_scratch2) rfl⟩)]

/-- A row's credit, and a half's: they are the buffer's and the shape's. -/
theorem rowCredit_r (b : ℕ) (inb) (j : Fin (S128x128.size gathers_S100000x128_S128x128.axis')) :
    ((halfAt rV b inb).slice (S128x128.rowRect gathers_S100000x128_S128x128.axis' j) (S128x128.stride_rowRect gathers_S100000x128_S128x128.axis' j)).view.dmaCredit = 4096 := by
  rw [← View.dmaCredit_ref]
  show (cc0_scratch1 : Ref sig .scVector).dmaCredit (S128x128.rowShape (0 : Fin 2)) .f32 = 4096
  decide
theorem rowCredit_t (b : ℕ) (inb) (j : Fin (S128x128.size gathers_S100000x128_S128x128.axis')) :
    ((halfAt tV b inb).slice (S128x128.rowRect gathers_S100000x128_S128x128.axis' j) (S128x128.stride_rowRect gathers_S100000x128_S128x128.axis' j)).view.dmaCredit = 4096 := by
  rw [← View.dmaCredit_ref]
  show (cc0_scratch2 : Ref sig .scVector).dmaCredit (S128x128.rowShape (0 : Fin 2)) .f32 = 4096
  decide
theorem halfCredit_r (b : ℕ) (inb) : (halfAt rV b inb).view.dmaCredit = 128 * 4096 := by
  rw [← View.dmaCredit_ref]
  show (cc0_scratch1 : Ref sig .scVector).dmaCredit S128x128 .f32 = 128 * 4096
  decide
theorem halfCredit_t (b : ℕ) (inb) : (halfAt tV b inb).view.dmaCredit = 128 * 4096 := by
  rw [← View.dmaCredit_ref]
  show (cc0_scratch2 : Ref sig .scVector).dmaCredit S128x128 .f32 = 128 * 4096
  decide

/-! ## Cutting for the two streams, and joining after -/

theorem list_landed (V : Valuation τ sig (Elt F)) (fl : Buf (Elt F) ((lV).view.loc (SparseCore.V d (cV L) (jV L)))) (w : S2x128.Idx → Elt F .i32)
    (hw : w = idxs L V) :
    ((lV).view.loc (SparseCore.V d (cV L) (jV L)) ↦{fullShare} View.write (Elt F) (lV).view fl w Finset.univ : sProp 𝕄)
      ⊢ (lV).view.loc (SparseCore.V d (cV L) (jV L)) ↦{fullShare} idxs L V := by
  rw [hw, View.write_whole_univ]

/-- The list buffer: each list, at the left half of the share and at the right. -/
theorem list_cut (f : S2x128.Idx → Elt F .i32) :
    ((lV).view.loc (SparseCore.V d (cV L) (jV L)) ↦{fullShare} f : sProp 𝕄)
      ⊣⊢ iprop((((l0).view.loc (SparseCore.V d (cV L) (jV L)) ↦[(l0).view.set]{fullShare.left} f) ∗ ((l1).view.loc (SparseCore.V d (cV L) (jV L)) ↦[(l1).view.set]{fullShare.left} f))
        ∗ (((l0).view.loc (SparseCore.V d (cV L) (jV L)) ↦[(l0).view.set]{fullShare.right} f) ∗ ((l1).view.loc (SparseCore.V d (cV L) (jV L)) ↦[(l1).view.set]{fullShare.right} f))) := by
  rw [← compl_list]
  refine ⟨(pointsTo_share (PosShare.mem_left_op_right _)).1.trans (BIClass.sep_mono ?_ ?_), (BIClass.sep_mono ?_ ?_).trans (pointsTo_share (PosShare.mem_left_op_right _)).2⟩
  · exact (pointsTo_split_subset (Finset.subset_univ _)).1
  · exact (pointsTo_split_subset (Finset.subset_univ _)).1
  · exact (pointsTo_split_subset (Finset.subset_univ _)).2
  · exact (pointsTo_split_subset (Finset.subset_univ _)).2

/-- A row buffer: its two halves. -/
theorem rows_cut_r (f : S256x128.Idx → Elt F .f32) :
    ((rV).view.loc (SparseCore.V d (cV L) (jV L)) ↦{fullShare} f : sProp 𝕄)
      ⊣⊢ iprop(((lo rV).view.loc (SparseCore.V d (cV L) (jV L)) ↦[(lo rV).view.set]{fullShare} f) ∗ ((hi rV).view.loc (SparseCore.V d (cV L) (jV L)) ↦[(hi rV).view.set]{fullShare} f)) := by
  rw [set_rHalf, set_rHalf, ← compl_half]
  exact pointsTo_split_subset (Finset.subset_univ _)
theorem rows_cut_t (f : S256x128.Idx → Elt F .f32) :
    ((tV).view.loc (SparseCore.V d (cV L) (jV L)) ↦{fullShare} f : sProp 𝕄)
      ⊣⊢ iprop(((lo tV).view.loc (SparseCore.V d (cV L) (jV L)) ↦[(lo tV).view.set]{fullShare} f) ∗ ((hi tV).view.loc (SparseCore.V d (cV L) (jV L)) ↦[(hi tV).view.set]{fullShare} f)) := by
  rw [set_tHalf, set_tHalf, ← compl_half]
  exact pointsTo_split_subset (Finset.subset_univ _)

/-- A share of a table: a half for each of its two gathers. -/
theorem table_cut_e (q : PosShare TreeShare) (f : S100000x128.Idx → Elt F .f32) :
    (eLoc d ↦{q} f : sProp 𝕄)
      ⊣⊢ iprop(((allOf eV).view.loc (SparseCore.V d (cV L) (jV L)) ↦[(allOf eV).view.set]{q.left} f) ∗ ((allOf eV).view.loc (SparseCore.V d (cV L) (jV L)) ↦[(allOf eV).view.set]{q.right} f)) := by
  rw [set_eAll]
  exact pointsTo_share (PosShare.mem_left_op_right q)
theorem table_cut_a (q : PosShare TreeShare) (f : S100000x128.Idx → Elt F .f32) :
    (aLoc d ↦{q} f : sProp 𝕄)
      ⊣⊢ iprop(((allOf aV).view.loc (SparseCore.V d (cV L) (jV L)) ↦[(allOf aV).view.set]{q.left} f) ∗ ((allOf aV).view.loc (SparseCore.V d (cV L) (jV L)) ↦[(allOf aV).view.set]{q.right} f)) := by
  rw [set_aAll]
  exact pointsTo_share (PosShare.mem_left_op_right q)

/-- What the gathers of each stream land, row by row, and the shares they return. -/
def landsE (V : Valuation τ sig (Elt F)) (hV : InRange V) (f : S256x128.Idx → Elt F .f32) : Fin (128 + 128) → sProp 𝕄 :=
  pairBack (SparseCore.V d (cV L) (jV L)) (allOf eV) (lo rV) (hi rV) gathers_S100000x128_S128x128 l0 l1 rfl (shareOf (wL L)).left (shareOf (wL L)).right
    fullShare.left (V (Proc.devRef .tc main_arg1)) f f (idxs L V) (idxs L V) (by decide) (list_lt L V hV 0 _) (list_lt L V hV 1 _)
def landsA (V : Valuation τ sig (Elt F)) (hV : InRange V) (f : S256x128.Idx → Elt F .f32) : Fin (128 + 128) → sProp 𝕄 :=
  pairBack (SparseCore.V d (cV L) (jV L)) (allOf aV) (lo tV) (hi tV) gathers_S100000x128_S128x128 l0 l1 rfl (shareOf (wL L)).left (shareOf (wL L)).right
    fullShare.right (V (Proc.devRef .tc main_arg2)) f f (idxs L V) (idxs L V) (by decide) (list_lt L V hV 0 _) (list_lt L V hV 1 _)

instance landsE_storable (V : Valuation τ sig (Elt F)) (hV : InRange V) (f : S256x128.Idx → Elt F .f32) (t : Fin (128 + 128)) :
    BI.Storable (upEmb : UEmb _ 𝕄) (landsE d L V hV f t) := pairBack_storable ..
instance landsA_storable (V : Valuation τ sig (Elt F)) (hV : InRange V) (f : S256x128.Idx → Elt F .f32) (t : Fin (128 + 128)) :
    BI.Storable (upEmb : UEmb _ 𝕄) (landsA d L V hV f t) := pairBack_storable ..

/-- Each gather's rows among its stream's. -/
theorem landsE_first (V : Valuation τ sig (Elt F)) (hV : InRange V) (f : S256x128.Idx → Elt F .f32) (j : Fin (S128x128.size gathers_S100000x128_S128x128.axis'))
    (h : 0 + j.val < 128 + 128) :
    rowBack (SparseCore.V d (cV L) (jV L)) (allOf eV) (lo rV) gathers_S100000x128_S128x128 l0 rfl (shareOf (wL L)).left fullShare.left
        (V (Proc.devRef .tc main_arg1)) f (idxs L V) (by decide) (list_lt L V hV 0 _) j
      ⊢ (landsE d L V hV f ⟨0 + j.val, h⟩ : sProp 𝕄) :=
  rowBack_first (SparseCore.V d (cV L) (jV L)) (allOf eV) (lo rV) (hi rV) gathers_S100000x128_S128x128 l0 l1 rfl (shareOf (wL L)).left (shareOf (wL L)).right
    fullShare.left (V (Proc.devRef .tc main_arg1)) f f (idxs L V) (idxs L V) (by decide) (list_lt L V hV 0 _) (list_lt L V hV 1 _) j h
theorem landsE_second (V : Valuation τ sig (Elt F)) (hV : InRange V) (f : S256x128.Idx → Elt F .f32) (j : Fin (S128x128.size gathers_S100000x128_S128x128.axis'))
    (h : (0 + 128) + j.val < 128 + 128) :
    rowBack (SparseCore.V d (cV L) (jV L)) (allOf eV) (hi rV) gathers_S100000x128_S128x128 l1 rfl (shareOf (wL L)).right fullShare.left
        (V (Proc.devRef .tc main_arg1)) f (idxs L V) (by decide) (list_lt L V hV 1 _) j
      ⊢ (landsE d L V hV f ⟨(0 + 128) + j.val, h⟩ : sProp 𝕄) :=
  rowBack_second (SparseCore.V d (cV L) (jV L)) (allOf eV) (lo rV) (hi rV) gathers_S100000x128_S128x128 l0 l1 rfl (shareOf (wL L)).left (shareOf (wL L)).right
    fullShare.left (V (Proc.devRef .tc main_arg1)) f f (idxs L V) (idxs L V) (by decide) (list_lt L V hV 0 _) (list_lt L V hV 1 _) j (k := 0 + 128) rfl h
theorem landsA_first (V : Valuation τ sig (Elt F)) (hV : InRange V) (f : S256x128.Idx → Elt F .f32) (j : Fin (S128x128.size gathers_S100000x128_S128x128.axis'))
    (h : 0 + j.val < 128 + 128) :
    rowBack (SparseCore.V d (cV L) (jV L)) (allOf aV) (lo tV) gathers_S100000x128_S128x128 l0 rfl (shareOf (wL L)).left fullShare.right
        (V (Proc.devRef .tc main_arg2)) f (idxs L V) (by decide) (list_lt L V hV 0 _) j
      ⊢ (landsA d L V hV f ⟨0 + j.val, h⟩ : sProp 𝕄) :=
  rowBack_first (SparseCore.V d (cV L) (jV L)) (allOf aV) (lo tV) (hi tV) gathers_S100000x128_S128x128 l0 l1 rfl (shareOf (wL L)).left (shareOf (wL L)).right
    fullShare.right (V (Proc.devRef .tc main_arg2)) f f (idxs L V) (idxs L V) (by decide) (list_lt L V hV 0 _) (list_lt L V hV 1 _) j h
theorem landsA_second (V : Valuation τ sig (Elt F)) (hV : InRange V) (f : S256x128.Idx → Elt F .f32) (j : Fin (S128x128.size gathers_S100000x128_S128x128.axis'))
    (h : (0 + 128) + j.val < 128 + 128) :
    rowBack (SparseCore.V d (cV L) (jV L)) (allOf aV) (hi tV) gathers_S100000x128_S128x128 l1 rfl (shareOf (wL L)).right fullShare.right
        (V (Proc.devRef .tc main_arg2)) f (idxs L V) (by decide) (list_lt L V hV 1 _) j
      ⊢ (landsA d L V hV f ⟨(0 + 128) + j.val, h⟩ : sProp 𝕄) :=
  rowBack_second (SparseCore.V d (cV L) (jV L)) (allOf aV) (lo tV) (hi tV) gathers_S100000x128_S128x128 l0 l1 rfl (shareOf (wL L)).left (shareOf (wL L)).right
    fullShare.right (V (Proc.devRef .tc main_arg2)) f f (idxs L V) (idxs L V) (by decide) (list_lt L V hV 0 _) (list_lt L V hV 1 _) j (k := 0 + 128) rfl h

/-- All of a stream landed: the row buffer holds the task's block, the table's share and the lists are back. -/
theorem landsE_join (V : Valuation τ sig (Elt F)) (hV : InRange V) (f : S256x128.Idx → Elt F .f32) :
    bigSep Finset.univ (landsE d L V hV f)
      ⊢ (iprop(((rV).view.loc (SparseCore.V d (cV L) (jV L)) ↦{fullShare} got L V (V (Proc.devRef .tc main_arg1)))
        ∗ (eLoc d ↦{shareOf (wL L)} V (Proc.devRef .tc main_arg1))
        ∗ (((l0).view.loc (SparseCore.V d (cV L) (jV L)) ↦[(l0).view.set]{fullShare.left} idxs L V) ∗ ((l1).view.loc (SparseCore.V d (cV L) (jV L)) ↦[(l1).view.set]{fullShare.left} idxs L V))) : sProp 𝕄) := by
  refine BIBase.Entails.trans (pairBack_join (SparseCore.V d (cV L) (jV L)) (allOf eV) (lo rV) (hi rV) gathers_S100000x128_S128x128 l0 l1 rfl (shareOf (wL L)).left (shareOf (wL L)).right
    fullShare.left (V (Proc.devRef .tc main_arg1)) f f (idxs L V) (idxs L V) (by decide) (list_lt L V hV 0 _) (list_lt L V hV 1 _)) ?_
  iintro ⟨⟨Hr0, He0, Hl0⟩, Hr1, He1, Hl1⟩
  ihave Hr0 := (Entails.of_eq (pointsTo_congr (landed_r L V hV (V (Proc.devRef .tc main_arg1)) f 0 0 (by decide) rfl _ inb_S256x128_S128x128_0_0 (list_lt L V hV 0 _)))) $$ Hr0
  ihave Hr1 := (Entails.of_eq (pointsTo_congr (landed_r L V hV (V (Proc.devRef .tc main_arg1)) f 1 128 (by decide) rfl _ inb_S256x128_S128x128_128_0 (list_lt L V hV 1 _)))) $$ Hr1
  isplitl [Hr0 Hr1]
  · iapply (rows_cut_r d L _).2; isplitl [Hr0] <;> iassumption
  isplitl [He0 He1]
  · iapply (table_cut_e d L _ _).2; isplitl [He0] <;> iassumption
  isplitl [Hl0] <;> iassumption
theorem landsA_join (V : Valuation τ sig (Elt F)) (hV : InRange V) (f : S256x128.Idx → Elt F .f32) :
    bigSep Finset.univ (landsA d L V hV f)
      ⊢ (iprop(((tV).view.loc (SparseCore.V d (cV L) (jV L)) ↦{fullShare} got L V (V (Proc.devRef .tc main_arg2)))
        ∗ (aLoc d ↦{shareOf (wL L)} V (Proc.devRef .tc main_arg2))
        ∗ (((l0).view.loc (SparseCore.V d (cV L) (jV L)) ↦[(l0).view.set]{fullShare.right} idxs L V) ∗ ((l1).view.loc (SparseCore.V d (cV L) (jV L)) ↦[(l1).view.set]{fullShare.right} idxs L V))) : sProp 𝕄) := by
  refine BIBase.Entails.trans (pairBack_join (SparseCore.V d (cV L) (jV L)) (allOf aV) (lo tV) (hi tV) gathers_S100000x128_S128x128 l0 l1 rfl (shareOf (wL L)).left (shareOf (wL L)).right
    fullShare.right (V (Proc.devRef .tc main_arg2)) f f (idxs L V) (idxs L V) (by decide) (list_lt L V hV 0 _) (list_lt L V hV 1 _)) ?_
  iintro ⟨⟨Ht0, Ha0, Hl0⟩, Ht1, Ha1, Hl1⟩
  ihave Ht0 := (Entails.of_eq (pointsTo_congr (landed_t L V hV (V (Proc.devRef .tc main_arg2)) f 0 0 (by decide) rfl _ inb_S256x128_S128x128_0_0 (list_lt L V hV 0 _)))) $$ Ht0
  ihave Ht1 := (Entails.of_eq (pointsTo_congr (landed_t L V hV (V (Proc.devRef .tc main_arg2)) f 1 128 (by decide) rfl _ inb_S256x128_S128x128_128_0 (list_lt L V hV 1 _)))) $$ Ht1
  isplitl [Ht0 Ht1]
  · iapply (rows_cut_t d L _).2; isplitl [Ht0] <;> iassumption
  isplitl [Ha0 Ha1]
  · iapply (table_cut_a d L _ _).2; isplitl [Ha0] <;> iassumption
  isplitl [Hl0] <;> iassumption

/-- The block written out is the task's block of the result. -/
theorem out_landed_o (V : Valuation τ sig (Elt F)) (E : S100000x128.Idx → Elt F .f32) (f : S8192x128.Idx → Elt F .f32) (w : S256x128.Idx → Elt F .f32) (hw : w = got L V E) :
    ((oK L).view.loc (SparseCore.V d (cV L) (jV L)) ↦[(oK L).view.set]{fullShare} (oK L).view.writes (Elt F) f [⟨Rect.whole S256x128, w⟩] : sProp 𝕄)
      ⊢ oLoc d ↦[oSet (wL L)]{fullShare} picked (V (Proc.devRef .tc main_v5)) E := by
  rw [show (oK L).view.writes (Elt F) f [⟨Rect.whole S256x128, w⟩] = (oK L).view.write (Elt F) f w Finset.univ from
    (View.write_univ_eq_writes_whole (oK L).view f [] w).symm]
  exact (Entails.of_eq (pointsTo_congr (out_o L V E f w hw))).trans (Entails.of_eq (pts_oK d L _))
theorem out_landed_p (V : Valuation τ sig (Elt F)) (E : S100000x128.Idx → Elt F .f32) (f : S8192x128.Idx → Elt F .f32) (w : S256x128.Idx → Elt F .f32) (hw : w = got L V E) :
    ((pK L).view.loc (SparseCore.V d (cV L) (jV L)) ↦[(pK L).view.set]{fullShare} (pK L).view.writes (Elt F) f [⟨Rect.whole S256x128, w⟩] : sProp 𝕄)
      ⊢ pLoc d ↦[oSet (wL L)]{fullShare} picked (V (Proc.devRef .tc main_v5)) E := by
  rw [show (pK L).view.writes (Elt F) f [⟨Rect.whole S256x128, w⟩] = (pK L).view.write (Elt F) f w Finset.univ from
    (View.write_univ_eq_writes_whole (pK L).view f [] w).symm]
  exact (Entails.of_eq (pointsTo_congr (out_o L V E f w hw))).trans (Entails.of_eq (pts_pK d L _))

/-! ## The task -/

set_option maxHeartbeats 4000000 in
theorem task [FloatOps F] (hF : (K (F := F)).Facts) (V : Valuation τ sig (Elt F)) (hV : InRange V) (X : Buf (Elt F) (oLoc d)) (Y : Buf (Elt F) (pLoc d))
    (O : CellTallies nD τ sig (HIx 1)) (W : Waits sig (HIx 1)) (hO : ∀ g, O g none = 0) :
    iprop(levAts (K (F := F)).L (K (F := F)).lev ∗ emp ∗ part d (wL L) V X Y
        ∗ scopedBufs (SparseCore.V d (cV L) (jV L)) ∗ scopedSems0 (SparseCore.V d (cV L) (jV L)) ∗ owes (SparseCore.V d (cV L) (jV L)) O W)
      ⊢ wp frame (wpE (defs₀ (F := F)) 𝒱₀ (SparseCore.V d (cV L) (jV L)) none) Set.univ
          (cc0_gather2 L eV (Memref.isWhole_whole _) aV (Memref.isWhole_whole _) iV (Memref.isWhole_whole _) oV (Memref.isWhole_whole _) pV (Memref.isWhole_whole _)
            lV (Memref.isWhole_whole _) rV (Memref.isWhole_whole _) tV (Memref.isWhole_whole _) cc0_scratch3 cc0_scratch4 cc0_scoped0 cc0_scoped1 cc0_scoped2)
          fun _ => iprop(part d (wL L) V (X1 d V) (X2 d V)
            ∗ scopedBufs (SparseCore.V d (cV L) (jV L)) ∗ scopedSems0 (SparseCore.V d (cV L) (jV L))
            ∗ ∃ W', ⌜∀ p ∈ W', p ∈ W ∨ p.2 = none⌝ ∗ owes (SparseCore.V d (cV L) (jV L)) O W') := by
  rw [cc0_gather2_eq_skeleton]
  unfold cc0_gather2_skel
  rw [k0_part1_eq_skeleton, k0_part2_eq_skeleton]
  unfold k0_part1_skel k0_part2_skel
  rw [(K (F := F)).scopedBufs_V hF d (cV L) (jV L), SparseCore.Cfg.scopedSems0_V (Val := Elt F) d (cV L) (jV L), ownSems0_V, ownBufs_V]
  unfold part
  iintro ⟨#Hlv, -, ⟨Hi, He, Ha, Ho, Hp⟩, ⟨⟨%fl, Hl⟩, ⟨%fr, Hr⟩, ⟨%ft, Ht⟩, Hbufs⟩, ⟨HsemE, HsemA, HsemI, HsemO, HsemP, Hsems⟩, HO⟩
  ihave Hmw := (show levAts (K (F := F)).L (K (F := F)).lev ⊢ Transfers.MayWaits (SparseCore.V d (cV L) (jV L)) (default : HIx 1) O from
    (K (F := F)).mayWaits_none (thr := SparseCore.V d (cV L) (jV L)) hO) $$ Hlv
  ihave Hi' := (Entails.of_eq (pts_iK (F := F) d L _).symm) $$ Hi
  ihave Ho' := (Entails.of_eq (pts_oK (F := F) d L _).symm) $$ Ho
  ihave Hp' := (Entails.of_eq (pts_pK (F := F) d L _).symm) $$ Hp
  ihave Hl' := (Entails.of_eq (show ((SparseCore.V d (cV L) (jV L)).loc cc0_scratch0 ↦{fullShare} fl : sProp 𝕄) = (lV).view.loc (SparseCore.V d (cV L) (jV L)) ↦{fullShare} fl from rfl)) $$ Hl
  sl_exec
  -- The list buffer holds the task's two rows; they, the row buffers and the tables' shares are cut for the two streams.
  ihave Hl2 := (list_landed d L V fl (task.sl.dma0 L V) rfl) $$ Hl'
  icases (list_cut d L (idxs L V)) $$ Hl2 with ⟨⟨HlE0, HlE1⟩, HlA0, HlA1⟩
  icases (rows_cut_r d L fr) $$ Hr with ⟨Hr0, Hr1⟩
  icases (rows_cut_t d L ft) $$ Ht with ⟨Ht0, Ht1⟩
  icases (table_cut_e d L (shareOf (wL L)) (V (Proc.devRef .tc main_arg1))) $$ He with ⟨He0, He1⟩
  icases (table_cut_a d L (shareOf (wL L)) (V (Proc.devRef .tc main_arg2))) $$ Ha with ⟨Ha0, Ha1⟩
  imod (Transfers.batch_alloc' countersEmb (SparseCore.V d (cV L) (jV L)) (sm := .dma cc0_scratch3.sem) (default : HIx 1) 4096
    (landsE d L V hV fr) (E := Set.univ)) $$ HsemE with HE
  imod (Transfers.batch_alloc' countersEmb (SparseCore.V d (cV L) (jV L)) (sm := .dma cc0_scratch4.sem) (default : HIx 1) 4096
    (landsA d L V hV ft) (E := Set.univ)) $$ HsemA with HA
  iapply (wp_gatherInBatch countersEmb 𝒱₀ (SparseCore.V d (cV L) (jV L)) none (allOf eV) (lo rV) gathers_S100000x128_S128x128 l0 rfl
      (shareOf (wL L)).left fullShare.left (V (Proc.devRef .tc main_arg1)) fr (idxs L V) (by decide) (list_lt L V hV 0 _) _ _ _ _ (default : HIx 1)
      (n := 128 + 128) (N := 4096) (k₀ := 0) (u := 0) (D := landsE d L V hV fr) (by decide) (by decide) (rowCredit_r _ _)
      (fun j => landsE_first d L V hV _ j _)) $$ [HE Hr0 He0 HlE0]
  · isplitl [He0]; · iexact He0
    isplitl [Hr0]; · iexact Hr0
    isplitl [HlE0]; · iexact HlE0
    iexact HE
  iintro HE
  sl_exec
  iapply (wp_gatherInBatch countersEmb 𝒱₀ (SparseCore.V d (cV L) (jV L)) none (allOf aV) (lo tV) gathers_S100000x128_S128x128 l0 rfl
      (shareOf (wL L)).left fullShare.right (V (Proc.devRef .tc main_arg2)) ft (idxs L V) (by decide) (list_lt L V hV 0 _) _ _ _ _ (default : HIx 1)
      (n := 128 + 128) (N := 4096) (k₀ := 0) (u := 0) (D := landsA d L V hV ft) (by decide) (by decide) (rowCredit_t _ _)
      (fun j => landsA_first d L V hV _ j _)) $$ [HA Ht0 Ha0 HlA0]
  · isplitl [Ha0]; · iexact Ha0
    isplitl [Ht0]; · iexact Ht0
    isplitl [HlA0]; · iexact HlA0
    iexact HA
  iintro HA
  sl_exec
  iapply (wp_gatherInBatch countersEmb 𝒱₀ (SparseCore.V d (cV L) (jV L)) none (allOf eV) (hi rV) gathers_S100000x128_S128x128 l1 rfl
      (shareOf (wL L)).right fullShare.left (V (Proc.devRef .tc main_arg1)) fr (idxs L V) (by decide) (list_lt L V hV 1 _) _ _ _ _ (default : HIx 1)
      (n := 128 + 128) (N := 4096) (k₀ := (0 + 128)) (u := 0) (D := landsE d L V hV fr) (by decide) (by decide) (rowCredit_r _ _)
      (fun j => landsE_second d L V hV _ j _)) $$ [HE Hr1 He1 HlE1]
  · isplitl [He1]; · iexact He1
    isplitl [Hr1]; · iexact Hr1
    isplitl [HlE1]; · iexact HlE1
    iexact HE
  iintro HE
  sl_exec
  iapply (wp_gatherInBatch countersEmb 𝒱₀ (SparseCore.V d (cV L) (jV L)) none (allOf aV) (hi tV) gathers_S100000x128_S128x128 l1 rfl
      (shareOf (wL L)).right fullShare.right (V (Proc.devRef .tc main_arg2)) ft (idxs L V) (by decide) (list_lt L V hV 1 _) _ _ _ _ (default : HIx 1)
      (n := 128 + 128) (N := 4096) (k₀ := (0 + 128)) (u := 0) (D := landsA d L V hV ft) (by decide) (by decide) (rowCredit_t _ _)
      (fun j => landsA_second d L V hV _ j _)) $$ [HA Ht1 Ha1 HlA1]
  · isplitl [Ha1]; · iexact Ha1
    isplitl [Ht1]; · iexact Ht1
    isplitl [HlA1]; · iexact HlA1
    iexact HA
  iintro HA
  sl_exec
  iapply (Transfers.wp_waitBatchMulO countersEmb 𝒱₀ (SparseCore.V d (cV L) (jV L)) none (default : HIx 1) (n := 128 + 128) (N := 4096) (D := landsE d L V hV fr) (j := 128 + 128) (u := 0) 128
      (halfCredit_r _ _) (by decide)) $$ [HE HO]
  · isplitl [HE]; · iexact HE
    isplitl [HO]; · iexact HO
    iapply (Transfers.MayWaits.elim (SemLoc.dma cc0_scratch3.sem)) $$ Hmw
  iintro ⟨HE, HO⟩
  sl_exec
  iapply (Transfers.wp_waitBatchMulO countersEmb 𝒱₀ (SparseCore.V d (cV L) (jV L)) none (default : HIx 1) (n := 128 + 128) (N := 4096) (D := landsA d L V hV ft) (j := 128 + 128) (u := 0) 128
      (halfCredit_t _ _) (by decide)) $$ [HA HO]
  · isplitl [HA]; · iexact HA
    isplitl [HO]; · iexact HO
    iapply (Transfers.MayWaits.elim (SemLoc.dma cc0_scratch4.sem)) $$ Hmw
  iintro ⟨HA, HO⟩
  sl_step
  rw [wp_bind, wp_bind]
  iapply (Transfers.wp_waitBatchAllO countersEmb 𝒱₀ (SparseCore.V d (cV L) (jV L)) none (default : HIx 1) (n := 128 + 128) (N := 4096) (u := 0 + 128 * 4096)
      (D := landsE d L V hV fr) (halfCredit_r _ _) (by decide) (by decide)) $$ [HE HO]
  · isplitl [HE]; · iexact HE
    isplitl [HO]; · iexact HO
    iapply (Transfers.MayWaits.elim (SemLoc.dma cc0_scratch3.sem)) $$ Hmw
  iintro ⟨HE, HsemE, HO⟩
  icases (landsE_join d L V hV fr) $$ HE with ⟨Hr, He, HlE⟩
  sl_step
  rw [wp_bind]
  iapply (Transfers.wp_waitBatchAllO countersEmb 𝒱₀ (SparseCore.V d (cV L) (jV L)) none (default : HIx 1) (n := 128 + 128) (N := 4096) (u := 0 + 128 * 4096)
      (D := landsA d L V hV ft) (halfCredit_t _ _) (by decide) (by decide)) $$ [HA HO]
  · isplitl [HA]; · iexact HA
    isplitl [HO]; · iexact HO
    iapply (Transfers.MayWaits.elim (SemLoc.dma cc0_scratch4.sem)) $$ Hmw
  iintro ⟨HA, HsemA, HO⟩
  icases (landsA_join d L V hV ft) $$ HA with ⟨Ht, Ha, HlA⟩
  ihave Hl := (list_cut d L (idxs L V)).2 $$ [HlE HlA]; · isplitl [HlE] <;> iassumption
  sl_exec
  ihave Ho := (out_landed_o d L V (V (Proc.devRef .tc main_arg1)) _ (task.sl.dma0_1 L V) rfl) $$ Ho'
  ihave Hp := (out_landed_p d L V (V (Proc.devRef .tc main_arg2)) _ (task.sl.dma0_2 L V) rfl) $$ Hp'
  sl_step
  isplitl [Hi' He Ha Ho Hp]
  · isplitl [Hi']; · iapply (Entails.of_eq (pts_iK (F := F) d L _)); iexact Hi'
    isplitl [He]; · iexact He
    isplitl [Ha]; · iexact Ha
    isplitl [Ho]; · iexact Ho
    iexact Hp
  isplitl [Hl Hr Ht Hbufs]
  · isplitl [Hl]; · iexists _; iexact Hl
    isplitl [Hr]; · iexists _; iexact Hr
    isplitl [Ht]; · iexists _; iexact Ht
    iexact Hbufs
  isplitl [HsemE HsemA HsemI HsemO HsemP Hsems]
  · isplitl [HsemE]; · iexact HsemE
    isplitl [HsemA]; · iexact HsemA
    isplitl [HsemI]; · iexact HsemI
    isplitl [HsemO]; · iexact HsemO
    isplitl [HsemP]; · iexact HsemP
    iexact Hsems
  iexists _; isplitr
  swap; · iexact HO
  ipureintro; intro p hp
  repeat (rcases Finset.mem_insert.mp hp with hp | hp; · exact .inr (hp ▸ rfl))
  exact .inl hp

end Tile

end Cert.Proof.RunKernelIdeal

end
-- ==== Proof.RunKernelIdeal.lean ====
/-
  `KernelIdeal`'s whole run: @main's host operations before the call (`preOps`), the call on the 32 tiles, each of them by
  TaskKernelIdeal.lean's `task`, and the host operations after it (`postOps`). `run_main` leaves every array of @main at the
  contents those compute from the launch memory (`Vf`), and every semaphore counter at zero.
-/
module

public import proofs.«01_k».proof.Proof.TaskKernelIdeal
public import Idealize.ShloMosaic.Lib.Pipeline.Frame

@[expose] public section

noncomputable section

namespace Cert.Proof.RunKernelIdeal

open Cert.KernelIdeal Cert.KernelIdeal.Gen Cert.Proof.Streams

open Idealize.ShloMosaic Idealize.ShloMosaic.TcCoe
open Idealize.ShloMosaic.SparseCore (V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs unscopedBufs_held)

variable {F : FTy → Type} [FloatOps F]

local notation "𝕄" => MT nD τ sig (HIx 1) (Elt F) ℕ UU ℕ

/-- @main's operations before the call. -/
abbrev preOps : List (HloOp τ sig (Elt F)) :=
  [ unary main_arg0 main_v0 ((extractStridedSlice S510x16 ![1, 0] · slices_S512x16_S510x16_1_0) : (⟨S512x16, .i32⟩ : BufTy).Contents (Elt F) → (⟨S510x16, .i32⟩ : BufTy).Contents (Elt F)),
    reshape main_v0 main_v1 (rfl : (.i32 : EltTy) = .i32) shapeCasts_S510x16_S8160,
    nullary main_c (constantI S_ 32 0#32),
    unary main_c main_v2 (broadcastInDim S8192 ![] bcast_S_S8192 : (⟨S_, .i32⟩ : BufTy).Contents (Elt F) → (⟨S8192, .i32⟩ : BufTy).Contents (Elt F)),
    nullary main_c_0 (constantI S_ 32 0#32),
    unary main_c_0 main_v3 (broadcastInDim S1 ![] bcast_S_S1 : (⟨S_, .i32⟩ : BufTy).Contents (Elt F) → (⟨S1, .i32⟩ : BufTy).Contents (Elt F)),
    ternary main_v2 main_v3 main_v1 main_v4 ((fun x i u => Host.scatter scatter_S8192_S1_S8160_0_n_0_0 (fun _ b => b) x i u) : (⟨S8192, .i32⟩ : BufTy).Contents (Elt F) → (⟨S1, .i32⟩ : BufTy).Contents (Elt F) → (⟨S8160, .i32⟩ : BufTy).Contents (Elt F) → (⟨S8192, .i32⟩ : BufTy).Contents (Elt F)),
    reshape main_v4 main_v5 (rfl : (.i32 : EltTy) = .i32) shapeCasts_S8192_S64x128 ]

/-- @main's operations after the call. -/
abbrev postOps : List (HloOp τ sig (Elt F)) :=
  [ unary main_v6_0 main_v7 ((extractStridedSlice S8160x128 ![0, 0] · slices_S8192x128_S8160x128_0_0) : (⟨S8192x128, .f32⟩ : BufTy).Contents (Elt F) → (⟨S8160x128, .f32⟩ : BufTy).Contents (Elt F)),
    reshape main_v7 main_v8 (rfl : (.f32 : EltTy) = .f32) shapeCasts_S8160x128_S510x16x128,
    unary main_v6_1 main_v9 ((extractStridedSlice S8160x128 ![0, 0] · slices_S8192x128_S8160x128_0_0) : (⟨S8192x128, .f32⟩ : BufTy).Contents (Elt F) → (⟨S8160x128, .f32⟩ : BufTy).Contents (Elt F)),
    reshape main_v9 main_v10 (rfl : (.f32 : EltTy) = .f32) shapeCasts_S8160x128_S510x16x128,
    unary main_v8 main_v11 ((extractStridedSlice S1x16x128 ![0, 0, 0] · slices_S510x16x128_S1x16x128_0_0_0) : (⟨S510x16x128, .f32⟩ : BufTy).Contents (Elt F) → (⟨S1x16x128, .f32⟩ : BufTy).Contents (Elt F)),
    reshape main_v11 main_v12 (rfl : (.f32 : EltTy) = .f32) shapeCasts_S1x16x128_S16x128,
    nullary main_c_1 (constantI S_ 32 510#32),
    unary main_c_1 main_v13 (broadcastInDim S16 ![] bcast_S_S16 : (⟨S_, .i32⟩ : BufTy).Contents (Elt F) → (⟨S16, .i32⟩ : BufTy).Contents (Elt F)),
    nullary main_v14 (iotaInDim S510 32 0),
    unary main_v14 main_v15 (broadcastInDim S510x1 ![0] bcast_S510_S510x1_0 : (⟨S510, .i32⟩ : BufTy).Contents (Elt F) → (⟨S510x1, .i32⟩ : BufTy).Contents (Elt F)),
    unary main_v13 main_v16 (broadcastInDim S1x16 ![1] bcast_S16_S1x16_1 : (⟨S16, .i32⟩ : BufTy).Contents (Elt F) → (⟨S1x16, .i32⟩ : BufTy).Contents (Elt F)),
    unary main_v15 main_v17 (broadcastInDim S510x16 ![0, 1] bcast_S510x1_S510x16_0_1 : (⟨S510x1, .i32⟩ : BufTy).Contents (Elt F) → (⟨S510x16, .i32⟩ : BufTy).Contents (Elt F)),
    unary main_v16 main_v18 (broadcastInDim S510x16 ![0, 1] bcast_S1x16_S510x16_0_1 : (⟨S1x16, .i32⟩ : BufTy).Contents (Elt F) → (⟨S510x16, .i32⟩ : BufTy).Contents (Elt F)),
    binary main_v17 main_v18 main_v19 (cmpi .slt : (⟨S510x16, .i32⟩ : BufTy).Contents (Elt F) → (⟨S510x16, .i32⟩ : BufTy).Contents (Elt F) → (⟨S510x16, .i1⟩ : BufTy).Contents (Elt F)),
    nullary main_v20 (iotaInDim S510 32 0),
    unary main_v20 main_v21 (broadcastInDim S510x1 ![0] bcast_S510_S510x1_0 : (⟨S510, .i32⟩ : BufTy).Contents (Elt F) → (⟨S510x1, .i32⟩ : BufTy).Contents (Elt F)),
    nullary main_c_2 (constantI S_ 32 2#32),
    unary main_c_2 main_v22 (broadcastInDim S16 ![] bcast_S_S16 : (⟨S_, .i32⟩ : BufTy).Contents (Elt F) → (⟨S16, .i32⟩ : BufTy).Contents (Elt F)),
    binary main_v22 main_v13 main_v23 (muli : (⟨S16, .i32⟩ : BufTy).Contents (Elt F) → (⟨S16, .i32⟩ : BufTy).Contents (Elt F) → (⟨S16, .i32⟩ : BufTy).Contents (Elt F)),
    nullary main_c_3 (constantI S_ 32 1#32),
    unary main_c_3 main_v24 (broadcastInDim S16 ![] bcast_S_S16 : (⟨S_, .i32⟩ : BufTy).Contents (Elt F) → (⟨S16, .i32⟩ : BufTy).Contents (Elt F)),
    binary main_v23 main_v24 main_v25 (subi : (⟨S16, .i32⟩ : BufTy).Contents (Elt F) → (⟨S16, .i32⟩ : BufTy).Contents (Elt F) → (⟨S16, .i32⟩ : BufTy).Contents (Elt F)),
    unary main_v25 main_v26 (broadcastInDim S1x16 ![1] bcast_S16_S1x16_1 : (⟨S16, .i32⟩ : BufTy).Contents (Elt F) → (⟨S1x16, .i32⟩ : BufTy).Contents (Elt F)),
    unary main_v21 main_v27 (broadcastInDim S510x16 ![0, 1] bcast_S510x1_S510x16_0_1 : (⟨S510x1, .i32⟩ : BufTy).Contents (Elt F) → (⟨S510x16, .i32⟩ : BufTy).Contents (Elt F)),
    unary main_v26 main_v28 (broadcastInDim S510x16 ![0, 1] bcast_S1x16_S510x16_0_1 : (⟨S1x16, .i32⟩ : BufTy).Contents (Elt F) → (⟨S510x16, .i32⟩ : BufTy).Contents (Elt F)),
    binary main_v27 main_v28 main_v29 (cmpi .slt : (⟨S510x16, .i32⟩ : BufTy).Contents (Elt F) → (⟨S510x16, .i32⟩ : BufTy).Contents (Elt F) → (⟨S510x16, .i1⟩ : BufTy).Contents (Elt F)) ]

set_option maxRecDepth 8192 in
theorem pre_sub : (preOps : List (HloOp τ sig (Elt F))).Forall fun op => op.bufs ⊆ tcRefs τ sig :=
  ⟨unary_bufs_sub .., reshape_bufs_sub .., nullary_bufs_sub .., unary_bufs_sub .., nullary_bufs_sub .., unary_bufs_sub .., ternary_bufs_sub .., reshape_bufs_sub ..⟩
set_option maxRecDepth 8192 in
theorem post_sub : (postOps : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub ..⟩

theorem pre_fresh : ∀ op ∈ (preOps : List (HloOp τ sig (Elt F))), op.fresh = ∅ := by
  intro _ h; (repeat (cases h with | head => rfl | tail _ h => ?_)); exact nomatch h
theorem post_fresh : ∀ op ∈ (postOps : List (HloOp τ sig (Elt F))), op.fresh = ∅ := by
  intro _ h; (repeat (cases h with | head => rfl | tail _ h => ?_)); exact nomatch h

set_option maxRecDepth 8192 in
set_option maxHeartbeats 4000000 in
theorem main_eq (d : Dev nD) : main (F := F) d = seq preOps >>= fun _ => (K (F := F)).run d 0 >>= fun _ => seq postOps >>= fun _ => pure ⟨⟩ := rfl

/-! ## The contents along @main -/

abbrev i' : DevRef τ sig := Proc.devRef .tc (main_v5 : Ref sig .tc)
abbrev e' : DevRef τ sig := Proc.devRef .tc (main_arg1 : Ref sig .tc)
abbrev a' : DevRef τ sig := Proc.devRef .tc (main_arg2 : Ref sig .tc)
abbrev o' : DevRef τ sig := Proc.devRef .tc (main_v6_0 : Ref sig .tc)
abbrev p' : DevRef τ sig := Proc.devRef .tc (main_v6_1 : Ref sig .tc)

variable (m : (ℓ : Loc nD τ sig) → Buf (Elt F) ℓ) (ρ : Dev nD → PrngReg)

/-- At the call, -/
def Vc (d : Dev nD) : Valuation τ sig (Elt F) := after preOps (launchContents m d)
/-- after it, -/
def Vd (d : Dev nD) : Valuation τ sig (Elt F) := Function.update (Function.update (Vc m d) o' (X1 d (Vc m d))) p' (X2 d (Vc m d))
/-- and at the end. -/
def Vf (d : Dev nD) : Valuation τ sig (Elt F) := after postOps (Vd m d)

/-- What the proof asks of the launch memory. -/
def PreOK : Prop := ∀ d, InRange (Vc m d)

/-! ## What the handshakes carry -/

def P : (K (F := F)).Pay (nD := nD) (Val := Elt F) (Name := ℕ) (U := UU) where
  st := fun q d c => match q with
    | 0 => bigSep Finset.univ fun i : Fin 16 => part d (taskOf (Fin.cast nCore_zero c) i) (Vc m d) (Vc m d o') (Vc m d p')
  dn := fun q d c => match q with
    | 0 => bigSep Finset.univ fun i : Fin 16 => part d (taskOf (Fin.cast nCore_zero c) i) (Vc m d) (X1 d (Vc m d)) (X2 d (Vc m d))
  go := fun q d c i => match q with | 0 => part d (taskOf (Fin.cast nCore_zero c) (Fin.cast nSub_zero i)) (Vc m d) (Vc m d o') (Vc m d p')
  td := fun q d c i => match q with | 0 => part d (taskOf (Fin.cast nCore_zero c) (Fin.cast nSub_zero i)) (Vc m d) (X1 d (Vc m d)) (X2 d (Vc m d))
  x := fun _ _ => iprop(emp)

instance P_storable : (P (F := F) m).IsStorable where
  st q d c := match q with
    | 0 => (inferInstance : BI.Storable (upEmb : UEmb _ 𝕄) (bigSep Finset.univ fun i : Fin 16 => part d (taskOf (Fin.cast nCore_zero c) i) (Vc m d) (Vc m d o') (Vc m d p')))
  dn q d c := match q with
    | 0 => (inferInstance : BI.Storable (upEmb : UEmb _ 𝕄) (bigSep Finset.univ fun i : Fin 16 => part d (taskOf (Fin.cast nCore_zero c) i) (Vc m d) (X1 d (Vc m d)) (X2 d (Vc m d))))
  go q d c i := match q with
    | 0 => part_storable d (taskOf (Fin.cast nCore_zero c) (Fin.cast nSub_zero i)) (Vc m d) (Vc m d o') (Vc m d p')
  td q d c i := match q with
    | 0 => part_storable d (taskOf (Fin.cast nCore_zero c) (Fin.cast nSub_zero i)) (Vc m d) (X1 d (Vc m d)) (X2 d (Vc m d))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather2 (coordsV c s)
          (Memref.whole main_arg1_scv) (Memref.isWhole_whole _) (Memref.whole main_arg2_scv) (Memref.isWhole_whole _)
          (Memref.whole main_v5_scv) (Memref.isWhole_whole _) (Memref.whole main_v6_0_scv) (Memref.isWhole_whole _)
          (Memref.whole main_v6_1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) hF (Vc m d) (hpre d) (Vc m d o') (Vc m d p') O W hO).trans (wp_mono frame _ _ fun _ => obl_post)

theorem vecSplit : (K (F := F)).VecSplit' (P m) 0 := by
  intro d c
  show (bigSep Finset.univ fun i : Fin 16 => part d (taskOf (Fin.cast nCore_zero c) i) (Vc m d) (Vc m d o') (Vc m d p'))
    ⊢ |={Set.univ}=> iprop((bigSep Finset.univ fun i : Fin 16 => part d (taskOf (Fin.cast nCore_zero c) i) (Vc m d) (Vc m d o') (Vc m d p'))
      ∗ ((bigSep Finset.univ fun i : Fin 16 => part d (taskOf (Fin.cast nCore_zero c) i) (Vc m d) (X1 d (Vc m d)) (X2 d (Vc m d)))
        -∗ bigSep Finset.univ fun i : Fin 16 => part d (taskOf (Fin.cast nCore_zero c) i) (Vc m d) (X1 d (Vc m d)) (X2 d (Vc m d))))
  iintro H; imodintro
  isplitl [H]; · iexact H
  iintro H; iexact H

/-! ## The arrays of the call, dealt to the 32 tasks -/

/-- The five arrays whole are the 32 tasks' parts of them. -/
theorem whole_eq (d : Dev nD) (V : Valuation τ sig (Elt F)) (X : Buf (Elt F) (oLoc d)) (Y : Buf (Elt F) (pLoc d)) :
    (iprop((iLoc d ↦{fullShare} V i') ∗ (eLoc d ↦{fullShare} V e') ∗ (aLoc d ↦{fullShare} V a') ∗ (oLoc d ↦{fullShare} X) ∗ pLoc d ↦{fullShare} Y) : sProp 𝕄)
      = bigSep Finset.univ fun c : Fin 2 => bigSep Finset.univ fun i : Fin 16 => part d (taskOf c i) V X Y := by
  have hi : ∀ f : Buf (Elt F) (iLoc d), (iLoc d ↦{fullShare} f : sProp 𝕄) = bigSep Finset.univ fun w : Fin 32 => iLoc d ↦[iSet w]{fullShare} f := fun f => by
    rw [← pointsTo_biUnion Finset.univ (ℓ := iLoc d) iSet (fun _ _ _ _ h => Rect.part_disjoint idiv h), Rect.biUnion_part idiv]; try rfl
  have ho : ∀ f : Buf (Elt F) (oLoc d), (oLoc d ↦{fullShare} f : sProp 𝕄) = bigSep Finset.univ fun w : Fin 32 => oLoc d ↦[oSet w]{fullShare} f := fun f => by
    rw [← pointsTo_biUnion Finset.univ (ℓ := oLoc d) oSet (fun _ _ _ _ h => Rect.part_disjoint odiv h), Rect.biUnion_part odiv]; try rfl
  have hp : ∀ f : Buf (Elt F) (pLoc d), (pLoc d ↦{fullShare} f : sProp 𝕄) = bigSep Finset.univ fun w : Fin 32 => pLoc d ↦[oSet w]{fullShare} f := fun f => by
    rw [← pointsTo_biUnion Finset.univ (ℓ := pLoc d) oSet (fun _ _ _ _ h => Rect.part_disjoint odiv h), Rect.biUnion_part odiv]; try rfl
  have he : ∀ f : Buf (Elt F) (eLoc d), (eLoc d ↦{fullShare} f : sProp 𝕄) = bigSep Finset.univ fun w : Fin 32 => eLoc d ↦{shareOf w} f := fun f =>
    pointsTo_piecesOf Finset.univ f (by decide) fullShare
  have ha : ∀ f : Buf (Elt F) (aLoc d), (aLoc d ↦{fullShare} f : sProp 𝕄) = bigSep Finset.univ fun w : Fin 32 => aLoc d ↦{shareOf w} f := fun f =>
    pointsTo_piecesOf Finset.univ f (by decide) fullShare
  rw [hi, he, ha, ho, hp, ← bigSep_sep', ← bigSep_sep', ← bigSep_sep', ← bigSep_sep',
    BI.bigSep_univ_equiv ((Equiv.prodComm (Fin 2) (Fin 16)).trans finProdFinEquiv), BI.bigSep_univ_prod]
  rfl

/-! ## @main's arrays, held whole -/

abbrev S5 : Finset (DevRef τ sig) := {i', e', a', o', p'}

theorem S5_sub : S5 ⊆ ucRefs τ sig := by
  intro b hb
  simp only [S5, Finset.mem_insert, Finset.mem_singleton] at hb
  rcases hb with rfl | rfl | rfl | rfl | rfl <;> exact Finset.mem_filter.mpr ⟨devRef_mem_tcRefs _, by decide⟩

theorem held_S5 (d : Dev nD) (W : Valuation τ sig (Elt F)) :
    (held (T d) S5 W : sProp 𝕄)
      = iprop((iLoc d ↦{fullShare} W i') ∗ (eLoc d ↦{fullShare} W e') ∗ (aLoc d ↦{fullShare} W a') ∗ (oLoc d ↦{fullShare} W o') ∗ pLoc d ↦{fullShare} W p') := by
  unfold held S5
  rw [SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) (ucRefs τ sig) (launchContents m d) :=
  unscopedBufs_held d (launchContents m d)

theorem Vd_i (d : Dev nD) : Vd m d i' = Vc m d i' := (Function.update_of_ne (by decide) _ _).trans (Function.update_of_ne (by decide) _ _)
theorem Vd_e (d : Dev nD) : Vd m d e' = Vc m d e' := (Function.update_of_ne (by decide) _ _).trans (Function.update_of_ne (by decide) _ _)
theorem Vd_a (d : Dev nD) : Vd m d a' = Vc m d a' := (Function.update_of_ne (by decide) _ _).trans (Function.update_of_ne (by decide) _ _)
theorem Vd_o (d : Dev nD) : Vd m d o' = X1 d (Vc m d) := (Function.update_of_ne (by decide) _ _).trans (Function.update_self _ _ _)
theorem Vd_p (d : Dev nD) : Vd m d p' = X2 d (Vc m d) := Function.update_self _ _ _

/-- What the call takes of the arrays held, -/
theorem held_call (d : Dev nD) : (held (T d) (ucRefs τ sig) (Vc m d) : sProp 𝕄)
    = iprop((bigSep Finset.univ fun c : Fin ((K (F := F)).nCore 0) => (P m).st 0 d c) ∗ held (T d) (ucRefs τ sig \ S5) (Vc m d)) := by
  rw [held_sub_split _ S5_sub, held_S5, whole_eq]; rfl
/-- and what it gives back. -/
theorem held_back (d : Dev nD) : (held (T d) (ucRefs τ sig) (Vd m d) : sProp 𝕄)
    = iprop((bigSep Finset.univ fun c : Fin ((K (F := F)).nCore 0) => (P m).dn 0 d c) ∗ held (T d) (ucRefs τ sig \ S5) (Vc m d)) := by
  rw [held_sub_split _ S5_sub, held_S5, Vd_i, Vd_e, Vd_a, Vd_o, Vd_p, whole_eq,
    held_congr _ (V := Vd m d) (V' := Vc m d) fun b hb => by
      have hn := (Finset.mem_sdiff.mp hb).2
      exact (Function.update_of_ne (fun h => hn (by rw [h]; decide)) _ _).trans (Function.update_of_ne (fun h => hn (by rw [h]; decide)) _ _)]
  rfl

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claims: all its arrays, at `Vf`. -/
abbrev FIN (d : Dev nD) : sProp 𝕄 := held (T d) (ucRefs τ sig) (Vf m d)

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (ucRefs τ sig) _ preOps
    (fun op h => sub_ucRefs op ((List.forall_iff_forall_mem.mp pre_sub) op h)) pre_fresh (launchContents m d)) $$ [Hb Hheld]
  · isplitl [Hb] <;> iassumption
  iintro ⟨Hb, Hheld⟩
  ihave Hheld := (show (held d.tc (ucRefs τ sig) (after preOps (launchContents m d)) : sProp 𝕄) ⊢ _ from Entails.of_eq (held_call m d)) $$ Hheld
  icases Hheld with ⟨Hcall, Hrest⟩
  rw [wp_bind]
  iapply ((K (F := F)).wp_run (D (F := F)) 𝒱 (EH := EH) (P := P m) κ d 0) $$ [Hst Hcall Hrest Hb Hts]
  isplitr; · iexact Hctx
  isplitl [Hst]; · iexact Hst
  isplitl [Hcall]; · iexact Hcall
  iintro ⟨Hst, Hdn⟩
  ihave Hheld := (Entails.of_eq (held_back m d).symm) $$ [Hdn Hrest]
  · isplitl [Hdn] <;> iassumption
  iapply (wp_seq 𝒱 none Set.univ d (ucRefs τ sig) _ postOps
    (fun op h => sub_ucRefs op ((List.forall_iff_forall_mem.mp post_sub) op h)) post_fresh (Vd m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = Vf m d b

theorem hfin (d : Dev nD) (s' : Phys nD τ sig (Elt F)) : iprop(FIN m d ∗ SI s') ⊢ (⌜fq m d s'⌝ : sProp 𝕄) := by
  show iprop((bigSep (ucRefs τ sig) fun b => (d, b) ↦{fullShare} Vf m d b) ∗ SI s') ⊢ _
  iintro ⟨H, HSI⟩
  iapply (SI_pointsTo_bufs_agree (st := s') (c := d) (qs := fun _ => fullShare) (F := Vf m d) (ucRefs τ sig))
  isplitl [HSI]; · iexact HSI
  iexact H

/-! ## The program's run -/

/-- Every array of @main ends at `Vf`, every semaphore counter at zero. -/
def QC : PUnit × MemSt nD τ sig (Elt F) → Prop := fun r => (∀ c : Dev nD, ∀ b ∈ ucRefs τ sig, r.2.mem (c, b) = Vf m c b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.RunKernelIdeal

end
-- ==== Proof.ResultKernelIdeal.lean ====
/-
  What the kernel program's run leaves: its arguments as they were, and its six results in closed form. The contents at
  the end are the fold of @main's operations around the call (RunKernelIdeal), read back here buffer by buffer.
-/
module

public import proofs.«01_k».proof.Proof.RunKernelIdeal
public import proofs.«01_k».proof.Proof.Values

@[expose] public section

noncomputable section

namespace Cert.Proof.RunKernelIdeal

open Cert.KernelIdeal Cert.KernelIdeal.Gen Cert.Proof.Values

open Idealize.ShloMosaic Idealize.ShloMosaic.TcCoe Idealize.ShloMosaic.ValueIdx
open Idealize.SL.Sem
open Idealize.ShloMosaic.StableHlo
open Idealize.ShloMosaic.Pipeline (ucRefs)

variable {F : FTy → Type} [FloatOps F]

/-! ## What @main does not write -/

/-- The buffers written before the call, -/
abbrev preW : List (Ref sig .tc) := [main_v0, main_v1, main_c, main_v2, main_c_0, main_v3, main_v4, main_v5]
/-- and after it. -/
abbrev postW : List (Ref sig .tc) :=
  [main_v7, main_v8, main_v9, main_v10, main_v11, main_v12, main_c_1, main_v13, main_v14, main_v15, main_v16, main_v17, main_v18, main_v19,
   main_v20, main_v21, main_c_2, main_v22, main_v23, main_c_3, main_v24, main_v25, main_v26, main_v27, main_v28, main_v29]

theorem pre_writes : (preOps : List (HloOp τ sig (Elt F))).map HloOp.writes = preW.map fun r => {Proc.devRef .tc r} := rfl
theorem post_writes : (postOps : List (HloOp τ sig (Elt F))).map HloOp.writes = postW.map fun r => {Proc.devRef .tc r} := rfl

variable (m : (ℓ : Loc nD τ sig) → Buf (Elt F) ℓ) (ρ : Dev nD → PrngReg)

theorem Vc_kept (d : Dev nD) (r : Ref sig .tc) (h : r ∉ preW) : Vc m d (Proc.devRef .tc r) = m ((d.tc : Thread nD τ).loc r) :=
  after_of_writes_sub preOps _ (forall_writes_sub_of_map pre_writes) h

theorem Vf_kept (d : Dev nD) (r : Ref sig .tc) (h : r ∉ preW) (h' : r ∉ postW) (ho : (Proc.devRef .tc r : DevRef τ sig) ≠ o')
    (hp : (Proc.devRef .tc r : DevRef τ sig) ≠ p') : Vf m d (Proc.devRef .tc r) = m ((d.tc : Thread nD τ).loc r) :=
  (after_of_writes_sub postOps _ (forall_writes_sub_of_map post_writes) h').trans
    ((Function.update_of_ne hp _ _).trans ((Function.update_of_ne ho _ _).trans (Vc_kept m d r h)))

/-! ## The list at the call -/

/-- The row numbers the program is launched with, on device `d`. -/
abbrev rowsAt (d : Dev nD) : IVec SA 32 := m ((d.tc : Thread nD τ).loc main_arg0)

theorem Vc_list (d : Dev nD) : Vc m d i' = shapeCast S64x128 (Host.scatter scatter_S8192_S1_S8160_0_n_0_0 (fun _ b => b)
    (broadcastInDim S8192 ![] bcast_S_S8192 (constantI S_ 32 0#32)) (broadcastInDim S1 ![] bcast_S_S1 (constantI S_ 32 0#32))
    (shapeCast S8160 (extractStridedSlice S510x16 ![1, 0] (rowsAt m d) slices_S512x16_S510x16_1_0) shapeCasts_S510x16_S8160)) shapeCasts_S8192_S64x128 := by
  unfold Vc
  simp only [preOps]
  after_results_simp <;> rfl

/-- The tasks may read with the list: every word of it is a row of the tables. -/
theorem preOK (hA : ∀ d, Rows (rowsAt m d)) : PreOK m := fun d j => by
  show BitVec.toNat (Vc m d i' j) < _
  rw [Vc_list m d]
  exact list_rows _ _ (fun _ => rfl) _ _ (hA d) _ _ _ j

/-- A row of the kernel's result. -/
theorem picked_read (d : Dev nD) (hA : Rows (rowsAt m d)) (E : S100000x128.Idx → Elt F .f32) (a : Fin 510) (b : Fin 16) (c : Fin 128) :
    picked (Vc m d i') E (ix2 ⟨16 * a.val + b.val, by omega⟩ c) = found (rowsAt m d) hA E (ix3 a b c) := by
  have h := list_read scatter_S8192_S1_S8160_0_n_0_0.wf (broadcastInDim S8192 ![] bcast_S_S8192 (constantI S_ 32 0#32)) (broadcastInDim S1 ![] bcast_S_S1 (constantI S_ 32 0#32))
    (fun _ => rfl) (rowsAt m d) slices_S512x16_S510x16_1_0 shapeCasts_S510x16_S8160 shapeCasts_S8192_S64x128 (16 * a.val + b.val) (by omega)
  have h' : Vc m d i' (ix2 ⟨(16 * a.val + b.val) / 128, by omega⟩ ⟨(16 * a.val + b.val) % 128, Nat.mod_lt _ (by decide)⟩)
      = rowsAt m d (ix2 ⟨1 + a.val, by omega⟩ b) := by
    rw [Vc_list m d]
    refine h.trans (congrArg (rowsAt m d) ?_)
    rw [show (⟨1 + (16 * a.val + b.val) / 16, by omega⟩ : Fin 512) = ⟨1 + a.val, by omega⟩ from Fin.ext (by show 1 + _ / 16 = 1 + _; omega),
      show (⟨(16 * a.val + b.val) % 16, Nat.mod_lt _ (by decide)⟩ : Fin 16) = b from Fin.ext (by show _ % 16 = _; omega)]
  refine (congrArg E (pair_eq (n0 := 100000) (n1 := 128) _ _)).trans (congrArg E (congrArg (fun n => ix2 n c) (Fin.ext ?_)))
  refine (congrArg (fun w : BitVec 32 => w.toNat % 100000) ((congrArg (Vc m d i') (pair_eq (n0 := 64) (n1 := 128) _ _)).trans h')).trans ?_
  exact Nat.mod_eq_of_lt (Nat.lt_trans (hA _) (by decide))

/-- The kernel's rows, cut and put in their places, are what is asked for. -/
theorem cut_found (d : Dev nD) (hA : Rows (rowsAt m d)) (E : S100000x128.Idx → Elt F .f32) :
    shapeCast S510x16x128 (extractStridedSlice S8160x128 ![0, 0] (picked (Vc m d i') E) slices_S8192x128_S8160x128_0_0) shapeCasts_S8160x128_S510x16x128
      = found (rowsAt m d) hA E := by
  funext j
  rw [eq_ix3 j]
  exact (cut_read _ _ _ (j 0) (j 1) (j 2)).trans (picked_read m d hA E (j 0) (j 1) (j 2))

/-! ## The results -/

theorem Vf_v8 (d : Dev nD) (hA : Rows (rowsAt m d)) : Vf m d (Proc.devRef .tc main_v8) = found (rowsAt m d) hA (m ((d.tc : Thread nD τ).loc main_arg1)) := by
  have h : Vf m d (Proc.devRef .tc main_v8) = shapeCast S510x16x128 (extractStridedSlice S8160x128 ![0, 0] (Vd m d o') slices_S8192x128_S8160x128_0_0) shapeCasts_S8160x128_S510x16x128 := by
    unfold Vf
    simp only [postOps]
    after_results_simp <;> rfl
  rw [h, Vd_o, ← Vc_kept m d main_arg1 (by decide)]
  exact cut_found m d hA _

theorem Vf_v10 (d : Dev nD) (hA : Rows (rowsAt m d)) : Vf m d (Proc.devRef .tc main_v10) = found (rowsAt m d) hA (m ((d.tc : Thread nD τ).loc main_arg2)) := by
  have h : Vf m d (Proc.devRef .tc main_v10) = shapeCast S510x16x128 (extractStridedSlice S8160x128 ![0, 0] (Vd m d p') slices_S8192x128_S8160x128_0_0) shapeCasts_S8160x128_S510x16x128 := by
    unfold Vf
    simp only [postOps]
    after_results_simp <;> rfl
  rw [h, Vd_p, ← Vc_kept m d main_arg2 (by decide)]
  exact cut_found m d hA _

theorem Vf_v12 (d : Dev nD) : Vf m d (Proc.devRef .tc main_v12)
    = shapeCast S16x128 (extractStridedSlice S1x16x128 ![0, 0, 0] (Vf m d (Proc.devRef .tc main_v8)) slices_S510x16x128_S1x16x128_0_0_0) shapeCasts_S1x16x128_S16x128 := by
  unfold Vf
  simp only [postOps]
  after_results_simp <;> rfl

theorem Vf_v19 (d : Dev nD) : Vf m d (Proc.devRef .tc main_v19)
    = cmpi .slt (broadcastInDim S510x16 ![0, 1] bcast_S510x1_S510x16_0_1 (broadcastInDim S510x1 ![0] bcast_S510_S510x1_0 (iotaInDim S510 32 0)))
        (broadcastInDim S510x16 ![0, 1] bcast_S1x16_S510x16_0_1 (broadcastInDim S1x16 ![1] bcast_S16_S1x16_1 (broadcastInDim S16 ![] bcast_S_S16 (constantI S_ 32 510#32)))) := by
  unfold Vf
  simp only [postOps]
  after_results_simp <;> rfl

theorem Vf_v29 (d : Dev nD) : Vf m d (Proc.devRef .tc main_v29)
    = cmpi .slt (broadcastInDim S510x16 ![0, 1] bcast_S510x1_S510x16_0_1 (broadcastInDim S510x1 ![0] bcast_S510_S510x1_0 (iotaInDim S510 32 0)))
        (broadcastInDim S510x16 ![0, 1] bcast_S1x16_S510x16_0_1 (broadcastInDim S1x16 ![1] bcast_S16_S1x16_1
          (subi (muli (broadcastInDim S16 ![] bcast_S_S16 (constantI S_ 32 2#32)) (broadcastInDim S16 ![] bcast_S_S16 (constantI S_ 32 510#32)))
            (broadcastInDim S16 ![] bcast_S_S16 (constantI S_ 32 1#32))))) := by
  unfold Vf
  simp only [postOps]
  after_results_simp <;> rfl

/-! ## The run -/

/-- From row numbers that are some, every execution ends with each buffer @main names at `Vf` and every counter at zero. -/
theorem run_read [∀ e, Nonempty (Elt F e)] (hA : ∀ d, Rows (rowsAt m d)) :
    θ_run (defs (F := F)) (threads (F := F)) ⟨m, fun _ => 0, ρ⟩ fun r =>
      (∀ (c : Dev nD) (b : Ref sig .tc), (Proc.devRef .tc b : DevRef τ sig) ∈ ucRefs τ sig → r.2.mem ((c.tc : Thread nD τ).loc b) = Vf m c (Proc.devRef .tc b))
      ∧ r.2.sem = fun _ => 0 :=
  (θ_run (defs (F := F)) _ _).mono (fun _ h => ⟨fun c b hb => h.1 c _ hb, h.2⟩) (run_main m ρ (preOK m hA))

/-- The arguments end as they were, every counter at zero. -/
theorem frame [∀ e, Nonempty (Elt F e)] (hA : ∀ d, Rows (rowsAt m d)) :
    θ_run (defs (F := F)) (threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  have kept : ∀ (r : PUnit × MemSt nD τ sig (Elt F)) (c : Dev nD) (b : Ref sig .tc),
      (∀ (c : Dev nD) (b : Ref sig .tc), (Proc.devRef .tc b : DevRef τ sig) ∈ ucRefs τ sig → r.2.mem ((c.tc : Thread nD τ).loc b) = Vf m c (Proc.devRef .tc b)) →
      (Proc.devRef .tc b : DevRef τ sig).isScoped = false → b ∉ preW → b ∉ postW → (Proc.devRef .tc b : DevRef τ sig) ≠ o' → (Proc.devRef .tc b : DevRef τ sig) ≠ p' →
      r.2.mem ((c.tc : Thread nD τ).loc b) = m ((c.tc : Thread nD τ).loc b) := fun r c b h hs h1 h2 h3 h4 =>
    (h c b (Finset.mem_filter.mpr ⟨devRef_mem_tcRefs _, by simp [hs]⟩)).trans (Vf_kept m c b h1 h2 h3 h4)
  (θ_run (defs (F := F)) _ _).mono (fun r h => ⟨fun c =>
      ⟨kept r c main_arg0 h.1 (by decide) (by decide) (by decide) (by decide) (by decide), kept r c main_arg1 h.1 (by decide) (by decide) (by decide) (by decide) (by decide),
        kept r c main_arg2 h.1 (by decide) (by decide) (by decide) (by decide) (by decide), kept r c main_arg3 h.1 (by decide) (by decide) (by decide) (by decide) (by decide),
        kept r c main_arg4 h.1 (by decide) (by decide) (by decide) (by decide) (by decide)⟩, h.2⟩) (run_read m ρ hA)

end Cert.Proof.RunKernelIdeal

end
-- ==== Proof.Reference.lean ====
/-
  The reference's run, from its generated reading (Gen/ReferenceIdeal/Run.lean): its frame — it has no semaphore, so every
  counter is at zero for want of any — and its lookups in the form the kernel's results are stated in.
-/
module

public import proofs.«01_k».proof.Proof.Gen.ReferenceIdeal.Run
public import proofs.«01_k».proof.Proof.Values

@[expose] public section

noncomputable section

namespace Cert.Proof.Reference

open Cert.ReferenceIdeal Cert.ReferenceIdeal.Gen Cert.Proof.Values

open Idealize.ShloMosaic Idealize.ShloMosaic.TcCoe
open Idealize.SL.Sem

variable {F : FTy → Type} [FloatOps F]

/-- There is no semaphore. -/
theorem no_sem {nD' : Nat} (f : GSem nD' τ sig → ℤ) : f = fun _ => 0 := by
  funext g
  obtain ⟨t, s⟩ := g
  match s with
  | .reg s => exact s.elim0
  | .dma s => exact s.elim0

variable (m : (ℓ : Loc nD τ sig) → Buf (Elt F) ℓ) (ρ : Dev nD → PrngReg)

/-- The arguments end as they were, every counter at zero. -/
theorem frame :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run (defs (F := F)) _ _).mono (fun _ h => ⟨fun c => (h c).2.2.2.2.2.2, no_sem _⟩) (Cert.ReferenceIdeal.Value.run m ρ)

/-- The row numbers the reference is launched with, on device `d`. -/
abbrev rowsAt (d : Dev nD) : IVec SA 32 := m ((d.tc : Thread nD τ).loc main_arg0)

set_option maxRecDepth 8192 in
/-- From row numbers that are some, the lookups are `found`. -/
theorem run_found (hA : ∀ d, Rows (rowsAt m d)) :
    θ_run (defs (F := F)) (onTc (τ := τ) (main (F := F))) ⟨m, fun _ => 0, ρ⟩ fun r => ∀ c : Dev nD,
      r.2.mem ((c.tc : Thread nD τ).loc main_v4) = shapeCast S16x128 (extractStridedSlice S1x16x128 ![0, 0, 0]
          (found (rowsAt m c) (hA c) (m ((c.tc : Thread nD τ).loc main_arg1))) slices_S510x16x128_S1x16x128_0_0_0) shapeCasts_S1x16x128_S16x128
      ∧ r.2.mem ((c.tc : Thread nD τ).loc main_v1) = found (rowsAt m c) (hA c) (m ((c.tc : Thread nD τ).loc main_arg1))
      ∧ r.2.mem ((c.tc : Thread nD τ).loc main_v21)
          = cmpi .slt (broadcastInDim S510x16 ![0, 1] bcast_S510x1_S510x16_0_1 (broadcastInDim S510x1 ![0] bcast_S510_S510x1_0 (iotaInDim S510 32 0)))
            (broadcastInDim S510x16 ![0, 1] bcast_S1x16_S510x16_0_1 (broadcastInDim S1x16 ![1] bcast_S16_S1x16_1
              (subi (muli (broadcastInDim S16 ![] bcast_S_S16 (constantI S_ 32 2#32)) (broadcastInDim S16 ![] bcast_S_S16 (constantI S_ 32 510#32)))
                (broadcastInDim S16 ![] bcast_S_S16 (constantI S_ 32 1#32)))))
      ∧ r.2.mem ((c.tc : Thread nD τ).loc main_v2) = found (rowsAt m c) (hA c) (m ((c.tc : Thread nD τ).loc main_arg2))
      ∧ r.2.mem ((c.tc : Thread nD τ).loc main_v11)
          = cmpi .slt (broadcastInDim S510x16 ![0, 1] bcast_S510x1_S510x16_0_1 (broadcastInDim S510x1 ![0] bcast_S510_S510x1_0 (iotaInDim S510 32 0)))
            (broadcastInDim S510x16 ![0, 1] bcast_S1x16_S510x16_0_1 (broadcastInDim S1x16 ![1] bcast_S16_S1x16_1 (broadcastInDim S16 ![] bcast_S_S16 (constantI S_ 32 510#32))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := F)) _ _).mono (fun r h c => ?_) (Cert.ReferenceIdeal.Value.run m ρ)
  obtain ⟨h4, h1, h21, -, h2, h11, hargs⟩ := h c
  have found_eq : ∀ E : FVec F SE .f32, _ = found (rowsAt m c) (hA c) E := fun E =>
    lookup_found (rowsAt m c) slices_S512x16_S510x16_1_0 bcast_S_S510x16 bcast_S510x16_S510x16x1_0_1 (hA c)
      gather_S100000x128_S510x16x1_S510x16x128_2_0_n_n_0_2_1128.wf E bcast_S_S510x16x1 bcast_S1_S1x1x1_2 bcast_S1x1x1_S510x16x1_0_1_2
      reducesTo_S510x16x1_S510x16_d2 h_S_ bcast_S510x16_S510x16x128_0_1 (broadcastInDim S510x16x128 ![] bcast_S_S510x16x128 (constant S_ .f32 0x7FC00000#32))
  have e1 := h1.trans (found_eq (m ((c.tc : Thread nD τ).loc main_arg1)))
  have e2 := h2.trans (found_eq (m ((c.tc : Thread nD τ).loc main_arg2)))
  have e4 : r.2.mem ((c.tc : Thread nD τ).loc main_v4) = shapeCast S16x128 (extractStridedSlice S1x16x128 ![0, 0, 0]
      (r.2.mem ((c.tc : Thread nD τ).loc main_v1)) slices_S510x16x128_S1x16x128_0_0_0) shapeCasts_S1x16x128_S16x128 := by rw [h1]; exact h4
  rw [e1] at e4
  exact ⟨e4, e1, h21, e2, h11, hargs⟩

end Cert.Proof.Reference

end
-- ==== Proof.Algebraic.lean ====
/-
  The kernel's six results are the reference's, on any launch memories that agree on the arguments: both programs return
  the table rows the row numbers name, and the same two masks.
-/
module

public import proofs.«01_k».proof.Defs
public import proofs.«01_k».proof.Proof.ResultKernelIdeal
public import proofs.«01_k».proof.Proof.Reference

@[expose] public section

noncomputable section

namespace Cert.Proof.Algebraic

open Cert.Proof.Values
open Idealize.ShloMosaic Idealize.ShloMosaic.TcCoe
open Idealize.SL.Sem
open Cert.Proof.RunKernelIdeal (Vf Vf_kept Vf_v8 Vf_v10 Vf_v12 Vf_v19 Vf_v29 run_read preW postW)

/-- `found` depends on nothing but the row numbers and the table. -/
theorem found_congr {α : Type} {A A' : IVec SA 32} {E E' : SE.Idx → α} (hA : Rows A) (hA' : Rows A') (h : A' = A) (he : E' = E) :
    found A' hA' E' = found A hA E := by
  subst h; subst he; rfl

section

open Cert.KernelIdeal

theorem tc_mem (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs _, by simp [h]⟩

end

set_option maxRecDepth 8192 in
theorem algebraic :
    letI := Cert.KernelIdeal.Gen.facts; letI := Cert.ReferenceIdeal.Gen.facts; letI := Cert.Pre_tokens.Gen.facts
    Cert.algebraic_KernelIdeal_ReferenceIdeal := by
  intro m g m' g' hpre hagree
  have hA : ∀ d, Rows (RunKernelIdeal.rowsAt m d) := fun d => rows_of_pre _ _ _ _ _ (hpre d)
  have hA' : ∀ d, Rows (Reference.rowsAt m' d) := fun d i =>
    lt_of_eq_of_lt (congrArg BitVec.toNat (congrFun (hagree d).1 i)) (hA d i)
  refine ⟨fun c => Vf m c _, fun c => Vf m c _, fun c => Vf m c _, fun c => Vf m c _, fun c => Vf m c _, fun c => Vf m c _, ?_, ?_⟩
  · refine (θ_run _ _ _).mono (fun r h c => ?_) (run_read m g hA)
    have k : ∀ b : Ref Cert.KernelIdeal.sig .tc, _ := fun b hs => h.1 c b (tc_mem b hs)
    exact ⟨k Cert.KernelIdeal.main_v12 rfl, k Cert.KernelIdeal.main_v8 rfl, k Cert.KernelIdeal.main_v29 rfl, k Cert.KernelIdeal.main_v8 rfl,
      k Cert.KernelIdeal.main_v10 rfl, k Cert.KernelIdeal.main_v19 rfl,
      (k Cert.KernelIdeal.main_arg0 rfl).trans (Vf_kept m c _ (by decide) (by decide) (by decide) (by decide)),
      (k Cert.KernelIdeal.main_arg1 rfl).trans (Vf_kept m c _ (by decide) (by decide) (by decide) (by decide)),
      (k Cert.KernelIdeal.main_arg2 rfl).trans (Vf_kept m c _ (by decide) (by decide) (by decide) (by decide)),
      (k Cert.KernelIdeal.main_arg3 rfl).trans (Vf_kept m c _ (by decide) (by decide) (by decide) (by decide)),
      (k Cert.KernelIdeal.main_arg4 rfl).trans (Vf_kept m c _ (by decide) (by decide) (by decide) (by decide))⟩
  · refine (θ_run _ _ _).mono (fun r h c => ?_) (Reference.run_found m' g' hA')
    obtain ⟨h4, h1, h21, h2, h11, hargs⟩ := h c
    obtain ⟨a0, a1, a2, -, -⟩ := hagree c
    have e1 := (found_congr (hA c) (hA' c) a0 a1).trans (Vf_v8 m c (hA c)).symm
    have e2 := (found_congr (hA c) (hA' c) a0 a2).trans (Vf_v10 m c (hA c)).symm
    rw [e1] at h4 h1
    rw [e2] at h2
    exact ⟨h4.trans (Vf_v12 m c).symm, h1, h21.trans (Vf_v29 m c).symm, h1, h2, h11.trans (Vf_v19 m c).symm, hargs⟩

end Cert.Proof.Algebraic

end
-- ==== Proof.lean ====
/-
  The proof of `Cert.Claim`: the frames of the kernel at both readings (ResultKernel, ResultKernelIdeal) and of the
  reference (Reference), the idealization (which changes nothing), and the equality of results (Algebraic).
-/
module

public import proofs.«01_k».proof.Defs
public import proofs.«01_k».proof.Proof.ResultKernel
public import proofs.«01_k».proof.Proof.ResultKernelIdeal
public import proofs.«01_k».proof.Proof.Reference
public import proofs.«01_k».proof.Proof.Algebraic

@[expose] public section

noncomputable section

namespace Cert.Proof

open Idealize.ShloMosaic Idealize.SL.Sem Cert.Proof.Values

theorem claim : Cert.Claim :=
  ⟨Cert.Kernel.Gen.facts, Cert.KernelIdeal.Gen.facts, Cert.ReferenceIdeal.Gen.facts, Cert.Pre_tokens.Gen.facts,
    fun m g hpre => RunKernel.frame m g fun d => rows_of_pre _ _ _ _ _ (hpre d),
    fun m g hpre => RunKernelIdeal.frame m g fun d => rows_of_pre _ _ _ _ _ (hpre d),
    fun m g _ => Reference.frame m g,
    fun m g _ => Reference.frame m g,
    trivial,
    Algebraic.algebraic⟩

end Cert.Proof

end
